-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  bcast_S_S512x1024 : S_.BroadcastsInDim S512x1024 (![] : Fin 0 → Fin S512x1024.rank)
  bcast_S_S2x256x4x64 : S_.BroadcastsInDim S2x256x4x64 (![] : Fin 0 → Fin S2x256x4x64.rank)

variable [Facts]

def fn {F : FTy → Type} [FloatOps F] (main_arg0 : FVec F S2x256x512 .f32) (main_arg1 : FVec F S512x1024 .f32) (main_arg2 : FVec F S2x256x4x64 .f32) (main_arg3 : FVec F S2x256x4x64 .f32) (main_arg4 : FVec F S1024x512 .f32) : IVec S2x256x512 1 × IVec S512x1024 1 × IVec S2x256x4x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S2x256x4x64 .f32 := Host.absf main_arg2
  let main_cst_1 : FVec F S_ .f32 := constant S_ .f32 0x7F800000#32
  let main_v7 : FVec F S2x256x4x64 .f32 := broadcastInDim S2x256x4x64 ![] bcast_S_S2x256x4x64 main_cst_1
  let main_v8 : IVec S2x256x4x64 1 := cmpf .olt main_v6 main_v7
  (main_v2, main_v5, main_v8)
-- ==== Pre_finite_ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  bcast_S_S512x1024 : S_.BroadcastsInDim S512x1024 (![] : Fin 0 → Fin S512x1024.rank)
  bcast_S_S2x256x16x64 : S_.BroadcastsInDim S2x256x16x64 (![] : Fin 0 → Fin S2x256x16x64.rank)

variable [Facts]

def fn {F : FTy → Type} [FloatOps F] (main_arg0 : FVec F S2x256x512 .f32) (main_arg1 : FVec F S512x1024 .f32) (main_arg2 : FVec F S2x256x16x64 .f32) (main_arg3 : FVec F S2x256x16x64 .f32) (main_arg4 : FVec F S1024x512 .f32) : IVec S2x256x512 1 × IVec S512x1024 1 × IVec S2x256x16x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S2x256x16x64 .f32 := Host.absf main_arg2
  let main_cst_1 : FVec F S_ .f32 := constant S_ .f32 0x7F800000#32
  let main_v7 : FVec F S2x256x16x64 .f32 := broadcastInDim S2x256x16x64 ![] bcast_S_S2x256x16x64 main_cst_1
  let main_v8 : IVec S2x256x16x64 1 := cmpf .olt main_v6 main_v7
  (main_v2, main_v5, main_v8)
-- ==== Kernel.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S2x4x64x256 : Shape := ⟨4, ![2, 4, 64, 256]⟩
abbrev S512x256 : Shape := ⟨2, ![512, 256]⟩
abbrev S256x128 : Shape := ⟨2, ![256, 128]⟩
abbrev S3x2x2x256x128 : Shape := ⟨5, ![3, 2, 2, 256, 128]⟩
abbrev S6 : Shape := ⟨1, ![6]⟩
abbrev S2 : Shape := ⟨1, ![2]⟩
abbrev S3x2x2 : Shape := ⟨3, ![3, 2, 2]⟩
abbrev S_ : Shape := ⟨0, ![]⟩
abbrev S1 : Shape := ⟨1, ![1]⟩
abbrev S1x256x512 : Shape := ⟨3, ![1, 256, 512]⟩
abbrev S256x512 : Shape := ⟨2, ![256, 512]⟩
abbrev S256x256 : Shape := ⟨2, ![256, 256]⟩
abbrev S256x64 : Shape := ⟨2, ![256, 64]⟩
abbrev S1x1x64x256 : Shape := ⟨4, ![1, 1, 64, 256]⟩
abbrev S64x256 : Shape := ⟨2, ![64, 256]⟩
abbrev S256 : Shape := ⟨1, ![256]⟩
abbrev S256x1 : Shape := ⟨2, ![256, 1]⟩
abbrev S1x1x1 : Shape := ⟨3, ![1, 1, 1]⟩
abbrev S1x1x1x256x128 : Shape := ⟨5, ![1, 1, 1, 256, 128]⟩
abbrev S128x512 : Shape := ⟨2, ![128, 512]⟩

abbrev nBuf : Space → Nat
  | .hbm => 8
  | .vmem => 12
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x256x4x64, .f32⟩
  | .hbm, ⟨3, _⟩ => ⟨S2x256x4x64, .f32⟩
  | .hbm, ⟨4, _⟩ => ⟨S1024x512, .f32⟩
  | .hbm, ⟨5, _⟩ => ⟨S2x4x64x256, .f32⟩
  | .hbm, ⟨6, _⟩ => ⟨S2x4x64x256, .f32⟩
  | .hbm, ⟨7, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x4x64x256, .f32⟩
  | .local _ .vmem, ⟨3, _⟩ => ⟨S2x4x64x256, .f32⟩
  | .local _ .vmem, ⟨4, _⟩ => ⟨S1024x512, .f32⟩
  | .local _ .vmem, ⟨5, _⟩ => ⟨S1024x512, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S2x256x512, .f32⟩
  | .local _ .vmem, ⟨11, _⟩ => ⟨S3x2x2x256x128, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_21 : BitVec 32 := 1#32
  let v38 : BitVec 32 := Scalar.muli v14 c1_i32_21
  let v39 : BitVec 32 := Scalar.addi c0_i32_22 v38
  v39.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_24 : BitVec 32 := 1#32
  let v40 : BitVec 32 := Scalar.muli v25 c1_i32_24
  let v41 : BitVec 32 := Scalar.addi c0_i32_25 v40
  v41.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_27 : BitVec 32 := 1#32
  let v42 : BitVec 32 := Scalar.muli v36 c1_i32_27
  let v43 : BitVec 32 := Scalar.addi c0_i32_28 v42
  v43.toNat
def k0_off1 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v44 : BitVec 32 := Scalar.muli v2 c256_i32
  ![0, v44.toNat]
def k0_dev4 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_101 : BitVec 32 := 1#32
  let v146 : BitVec 32 := Scalar.muli v36 c1_i32_101
  let v147 : BitVec 32 := Scalar.addi c0_i32_102 v146
  v147.toNat
def k0_dev5 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_114 : BitVec 32 := 1#32
  let v154 : BitVec 32 := Scalar.muli v25 c1_i32_114
  let v155 : BitVec 32 := Scalar.addi c0_i32_115 v154
  v155.toNat
def k0_dev6 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_127 : BitVec 32 := 1#32
  let v162 : BitVec 32 := Scalar.muli v14 c1_i32_127
  let v163 : BitVec 32 := Scalar.addi c0_i32_128 v162
  v163.toNat
def k0_dev7 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_168 : BitVec 32 := 1#32
  let v216 : BitVec 32 := Scalar.muli v36 c1_i32_168
  let v217 : BitVec 32 := Scalar.addi c0_i32_169 v216
  v217.toNat
def k0_dev8 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_181 : BitVec 32 := 1#32
  let v224 : BitVec 32 := Scalar.muli v25 c1_i32_181
  let v225 : BitVec 32 := Scalar.addi c0_i32_182 v224
  v225.toNat
def k0_dev9 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_194 : BitVec 32 := 1#32
  let v232 : BitVec 32 := Scalar.muli v14 c1_i32_194
  let v233 : BitVec 32 := Scalar.addi c0_i32_195 v232
  v233.toNat
def k0_dev10 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_248 : BitVec 32 := 1#32
  let v297 : BitVec 32 := Scalar.muli v36 c1_i32_248
  let v298 : BitVec 32 := Scalar.addi c0_i32_249 v297
  v298.toNat
def k0_dev11 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_261 : BitVec 32 := 1#32
  let v305 : BitVec 32 := Scalar.muli v25 c1_i32_261
  let v306 : BitVec 32 := Scalar.addi c0_i32_262 v305
  v306.toNat
def k0_dev12 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_274 : BitVec 32 := 1#32
  let v313 : BitVec 32 := Scalar.muli v14 c1_i32_274
  let v314 : BitVec 32 := Scalar.addi c0_i32_275 v313
  v314.toNat
def k0_dev13 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_317 : BitVec 32 := 1#32
  let v367 : BitVec 32 := Scalar.muli v36 c1_i32_317
  let v368 : BitVec 32 := Scalar.addi c0_i32_318 v367
  v368.toNat
def k0_dev14 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_330 : BitVec 32 := 1#32
  let v375 : BitVec 32 := Scalar.muli v25 c1_i32_330
  let v376 : BitVec 32 := Scalar.addi c0_i32_331 v375
  v376.toNat
def k0_dev15 (d0 : Dev nD) : Nat :=
  let c0_i32_344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_343 : BitVec 32 := 1#32
  let v383 : BitVec 32 := Scalar.muli v14 c1_i32_343
  let v384 : BitVec 32 := Scalar.addi c0_i32_344 v383
  v384.toNat
def k0_off2 (d0 : Dev nD) (c0_i32_355 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_354 : BitVec 32 := 256#32
  let v399 : BitVec 32 := Scalar.muli v2 c256_i32_354
  let v400 : BitVec 32 := Scalar.addi v399 c0_i32_355
  let v401 : Index := Scalar.indexCast v400
  let c0_356 : Index := 0#32
  ![v401.toNat, 0]
def k0_off3 (d0 : Dev nD) (c0_i32_432 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c256_i32_431 : BitVec 32 := 256#32
  let v456 : BitVec 32 := Scalar.muli v14 c256_i32_431
  let v457 : BitVec 32 := Scalar.addi v456 c0_i32_432
  let v458 : Index := Scalar.indexCast v457
  let c0_433 : Index := 0#32
  ![v458.toNat, 0]
def k0_off4 (d0 : Dev nD) (c1_i32_7 : BitVec 32) (c0_i32_442 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c256_i32_441 : BitVec 32 := 256#32
  let v465 : BitVec 32 := Scalar.muli v25 c256_i32_441
  let v466 : BitVec 32 := Scalar.addi v465 c0_i32_442
  let v467 : Index := Scalar.indexCast v466
  let c0_443 : Index := 0#32
  ![v467.toNat, 0]
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 67
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x256x16x64, .f32⟩
  | .hbm, ⟨3, _⟩ => ⟨S2x256x16x64, .f32⟩
  | .hbm, ⟨4, _⟩ => ⟨S1024x512, .f32⟩
  | .hbm, ⟨5, _⟩ => ⟨S2x256x1024, .f32⟩
  | .hbm, ⟨6, _⟩ => ⟨S2x256x16x64, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S1x256, .i32⟩
  | .hbm, ⟨20, _⟩ => ⟨S1x256, .i1⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S2x16x256x256, .f32⟩
  | .hbm, ⟨29, _⟩ => ⟨S_, .f32⟩
  | .hbm, ⟨30, _⟩ => ⟨S2x16x256x256, .f32⟩
  | .hbm, ⟨31, _⟩ => ⟨S2x16x256x256, .f32⟩
  | .hbm, ⟨32, _⟩ => ⟨S1x1x256x256, .i1⟩
  | .hbm, ⟨33, _⟩ => ⟨S_, .f32⟩
  | .hbm, ⟨34, _⟩ => ⟨S_, .f32⟩
  | .hbm, ⟨35, _⟩ => ⟨S2x16x256x256, .i1⟩
  | .hbm, ⟨36, _⟩ => ⟨S2x16x256x256, .f32⟩
  | .hbm, ⟨37, _⟩ => ⟨S2x16x256x256, .f32⟩
  | .hbm, ⟨38, _⟩ => ⟨S_, .f32⟩
  | .hbm, ⟨39, _⟩ => ⟨S2x16x256, .f32⟩
  | .hbm, ⟨40, _⟩ => ⟨S2x16x256x1, .f32⟩
  | .hbm, ⟨41, _⟩ => ⟨S2x16x256x256, .f32⟩
  | .hbm, ⟨42, _⟩ => ⟨S2x16x256x256, .f32⟩
  | .hbm, ⟨43, _⟩ => ⟨S2x16x256x256, .f32⟩
  | .hbm, ⟨44, _⟩ => ⟨S_, .i1⟩
  | .hbm, ⟨45, _⟩ => ⟨S256, .i1⟩
  | .hbm, ⟨46, _⟩ => ⟨S1x1x256x1, .i1⟩
  | .hbm, ⟨47, _⟩ => ⟨S_, .f32⟩
  | .hbm, ⟨48, _⟩ => ⟨S2x16x256, .f32⟩
  | .hbm, ⟨49, _⟩ => ⟨S2x16x256x1, .f32⟩
  | .hbm, ⟨50, _⟩ => ⟨S_, .f32⟩
  | .hbm, ⟨51, _⟩ => ⟨S_, .f32⟩
  | .hbm, ⟨52, _⟩ => ⟨S2x16x256x1, .i1⟩
  | .hbm, ⟨53, _⟩ => ⟨S2x16x256x1, .f32⟩
  | .hbm, ⟨54, _⟩ => ⟨S2x16x256x1, .f32⟩
  | .hbm, ⟨55, _⟩ => ⟨S2x16x256x256, .f32⟩
  | .hbm, ⟨56, _⟩ => ⟨S2x16x256x256, .f32⟩
  | .hbm, ⟨57, _⟩ => ⟨S1x1x256x1, .i1⟩
  | .hbm, ⟨58, _⟩ => ⟨S_, .f32⟩
  | .hbm, ⟨59, _⟩ => ⟨S_, .f32⟩
  | .hbm, ⟨60, _⟩ => ⟨S2x16x256x256, .i1⟩
  | .hbm, ⟨61, _⟩ => ⟨S2x16x256x256, .f32⟩
  | .hbm, ⟨62, _⟩ => ⟨S2x16x256x256, .f32⟩
  | .hbm, ⟨63, _⟩ => ⟨S2x16x64x256, .f32⟩
  | .hbm, ⟨64, _⟩ => ⟨S2x256x16x64, .f32⟩
  | .hbm, ⟨65, _⟩ => ⟨S2x256x1024, .f32⟩
  | .hbm, ⟨66, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.KernelIdeal.Protocol.lean ====
/-
  The protocol of the four devices, stated before any run of the kernel.

  Device `c` has a left neighbour `c + 3`, a right neighbour `c + 1` and an opposite device `c + 2` (mod 4). Its landing
  buffer has one block per slot `(k, b, h)`: batch `b`, half `h` of the two heads-pairs, and `k` the sender: `k = 0` the left
  neighbour, `k = 1` the right one, `k = 2` the opposite one.

  * Barrier semaphore. Every device signals one unit to each of the three others, and waits for three units once, before
    its first remote copy. The signaller that receives device `c`'s copies into its slots `(k, _, _)` pays duty `k` of `c`'s
    cell, and hands over those four blocks of its landing buffer, at whatever they hold.
  * Send semaphores, one per slot: credited by the device's own copy of its context block `(b, h)` to `peer k c`, waited for
    at the very end. The landing hands back the share of the source block that the copy read.
  * Receive semaphores, one per slot: credited by the copy from `origin k c`, waited for before the block is read. The
    landing hands over the block `(k, b, h)` of the landing buffer at the SENDER's context block `(b, h)`.

  All other semaphores complete copies inside one device, in the order the body issues them.
-/
module

public import proofs.«01_k».proof.Proof.Gen.KernelIdeal.Skeleton
public import proofs.«01_k».proof.Proof.Gen.KernelIdeal.Frame
public import Idealize.ShloMosaic.Lib.Pipeline.Regions
public import Idealize.ShloMosaic.Lib.Pipeline.RegionTalk
public import Idealize.ShloMosaic.Lib.Rounds
public import Idealize.ShloMosaic.Lib.Tactic
public import Idealize.ShloMosaic.Lib.ValueIdx

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F]

/-! ## The resource algebra -/

/-- The pipeline library's copy of the rounds algebra, and the protocol's, whose duties are numbered by `Fin 3`. -/
abbrev UU : Type := UR sig nD τ × (URounds (GSem nD τ sig) (Fin 3) × Counters)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) :=
  (Emb.inl : Emb (URounds (GSem nD τ sig) (Fin 3)) (URounds (GSem nD τ sig) (Fin 3) × Counters)).trans embR

/-! ## Devices, slots, cells -/

/-- A slot: the sender's direction, the batch, the half. -/
abbrev Slot : Type := Fin 3 × Fin 2 × Fin 2

/-- The device that `c`'s copies into the slots of direction `k` go to. -/
def peer : Fin 3 → Dev nD → Dev nD
  | 0, c => ⟨(c.val + 1) % 4, Nat.mod_lt _ (by decide)⟩
  | 1, c => ⟨(c.val + 3) % 4, Nat.mod_lt _ (by decide)⟩
  | 2, c => ⟨(c.val + 2) % 4, Nat.mod_lt _ (by decide)⟩

/-- The device whose copies land in `c`'s slots of direction `k`. -/
def origin : Fin 3 → Dev nD → Dev nD
  | 0, c => ⟨(c.val + 3) % 4, Nat.mod_lt _ (by decide)⟩
  | 1, c => ⟨(c.val + 1) % 4, Nat.mod_lt _ (by decide)⟩
  | 2, c => ⟨(c.val + 2) % 4, Nat.mod_lt _ (by decide)⟩

theorem origin_peer : ∀ (k : Fin 3) (c : Dev nD), origin k (peer k c) = c := by decide
theorem peer_origin : ∀ (k : Fin 3) (c : Dev nD), peer k (origin k c) = c := by decide

/-- Handing a family around along one direction. -/
def around (k : Fin 3) : Dev nD ≃ Dev nD := ⟨peer k, origin k, origin_peer k, peer_origin k⟩

/-- The barrier semaphore of the kernel's collective. -/
def barS : Sem sig := 0

theorem slot_lt : ∀ i : Slot, 4 * i.1.val + 2 * i.2.1.val + i.2.2.val < 12 := by decide

/-- The send and the receive semaphore of a slot. -/
def sendS (i : Slot) : DmaSem sig := ⟨8 + (4 * i.1.val + 2 * i.2.1.val + i.2.2.val), by have := slot_lt i; show _ < 32; omega⟩
def recvS (i : Slot) : DmaSem sig := ⟨20 + (4 * i.1.val + 2 * i.2.1.val + i.2.2.val), by have := slot_lt i; show _ < 32; omega⟩

abbrev barCell (c : Dev nD) : GSem nD τ sig := ((c : Thread nD τ), .reg barS)
abbrev sendCell (c : Dev nD) (i : Slot) : GSem nD τ sig := ((c : Thread nD τ), .dma (sendS i))
abbrev recvCell (c : Dev nD) (i : Slot) : GSem nD τ sig := ((c : Thread nD τ), .dma (recvS i))

/-- What a semaphore is for. -/
inductive Role
  | bar
  | send (i : Slot)
  | recv (i : Slot)
  | own
  deriving DecidableEq

def slotOf (n : ℕ) : Slot := (⟨n / 4 % 3, Nat.mod_lt _ (by decide)⟩, ⟨n / 2 % 2, Nat.mod_lt _ (by decide)⟩, ⟨n % 2, Nat.mod_lt _ (by decide)⟩)

def role : SemLoc sig → Role
  | .reg s => if s = barS then .bar else .own
  | .dma n => if n.val < 8 then .own else if n.val < 20 then .send (slotOf (n.val - 8)) else .recv (slotOf (n.val - 20))

theorem role_bar : role (.reg barS) = .bar := rfl
theorem role_send : ∀ i : Slot, role (.dma (sendS i)) = .send i := by decide
theorem role_recv : ∀ i : Slot, role (.dma (recvS i)) = .recv i := by decide

/-! ## The buffers the copies move -/

theorem slot_inb : ∀ (i : Slot) (a : Fin 5), (![i.1.val, i.2.1.val, i.2.2.val, 0, 0] : Fin 5 → Nat) a + S1x1x1x256x128.size a ≤ S3x2x2x256x128.size a := by decide

/-- Block `i` of the landing buffer. -/
def commM (i : Slot) : Memref sig .tc .vmem S256x128 .bf16 :=
  ((Memref.whole cc0_scratch11).slice (Rect.unit (s := S3x2x2x256x128) ![i.1.val, i.2.1.val, i.2.2.val, 0, 0] S1x1x1x256x128.size (slot_inb i)) (fun _ => rfl)).squeeze S256x128 squeezes_S1x1x1x256x128_S256x128

/-- The context block of a batch and a half. -/
def ctxM : Fin 2 → Fin 2 → Memref sig .tc .vmem S256x128 .bf16
  | 0, 0 => Memref.whole cc0_scratch6
  | 0, 1 => Memref.whole cc0_scratch7
  | 1, 0 => Memref.whole cc0_scratch8
  | 1, 1 => Memref.whole cc0_scratch9

/-- What one landing credits. -/
def N : ℕ := (commM (0, 0, 0)).view.dmaCredit

theorem N_pos : 0 < N := View.dmaCredit_pos _ (by decide)
theorem credit_eq (i : Slot) : (commM i).view.dmaCredit = N := rfl
theorem ctx_credit (b h : Fin 2) : (ctxM b h).view.dmaCredit = N := by
  fin_cases b <;> fin_cases h <;> rfl

/-! ## The values, as functions of what each device's arrays hold when the kernel starts -/

variable (m : (ℓ : Loc nD τ sig) → Buf (Elt F) ℓ)

/-- Batch `b` of the activations. -/
def xV (c : Dev nD) (b : Fin 2) : Vec F S1x256x512 .f32 := fun i => V m c main_arg0 (ix3 b (i 1) (i 2))

theorem col_lt (c : Dev nD) (j : Fin 256) : 256 * c.val + j.val < 1024 := by have := c.isLt; have := j.isLt; simp only [nD] at *; omega

/-- The device's 256 columns of the query weights. -/
def wqV (c : Dev nD) : Vec F S512x256 .f32 := fun i => V m c main_arg1 (ix2 (i 0) ⟨256 * c.val + (i 1).val, col_lt c (i 1)⟩)

/-- Keys and values of batch `b` and local head `j`, transposed to 64 × 256. -/
def kV (c : Dev nD) (b : Fin 2) (j : Fin 4) : Vec F S1x1x64x256 .f32 := fun i => V m c main_v1 (ix4 b j (i 2) (i 3))
def vV (c : Dev nD) (b : Fin 2) (j : Fin 4) : Vec F S1x1x64x256 .f32 := fun i => V m c main_v2 (ix4 b j (i 2) (i 3))

/-- The scaled query weights, and the queries of each batch. -/
def wqS (c : Dev nD) : FVec F S512x256 .bf16 := k0_pay2 (wqV m c)
def q0 (c : Dev nD) : FVec F S256x256 .bf16 := k0_pay3 (wqS m c) (xV m c 0)
def q1 (c : Dev nD) : FVec F S256x256 .bf16 := k0_pay11 (wqS m c) (xV m c 1)

/-- The context of batch `b` and local head `j`: the attention's output rows for that head, 256 × 64. -/
def hd (c : Dev nD) : Fin 2 → Fin 4 → FVec F S256x64 .bf16
  | 0, 0 => k0_pay4 k0_pay1 (wqS m c) (xV m c 0) (kV m c 0 0) (vV m c 0 0)
  | 0, 1 => k0_pay6 (k0_pay5 k0_pay1 (wqS m c) (xV m c 0) (kV m c 0 1)) (vV m c 0 1)
  | 0, 2 => k0_pay9 (k0_pay7 k0_pay1 (q0 m c) (kV m c 0 2)) (k0_pay8 k0_pay1 (q0 m c) (kV m c 0 2)) (vV m c 0 2)
  | 0, 3 => k0_pay10 k0_pay1 (q0 m c) (kV m c 0 3) (vV m c 0 3)
  | 1, 0 => k0_pay12 k0_pay1 (wqS m c) (xV m c 1) (kV m c 1 0) (vV m c 1 0)
  | 1, 1 => k0_pay13 k0_pay1 (q1 m c) (kV m c 1 1) (vV m c 1 1)
  | 1, 2 => k0_pay15 (k0_pay14 k0_pay1 (q1 m c) (kV m c 1 2)) (vV m c 1 2)
  | 1, 3 => k0_pay17 (k0_pay16 k0_pay1 (q1 m c) (kV m c 1 3) (vV m c 1 3))

/-- Two 256 × 64 blocks side by side. -/
def sideBySide {α : Type} (A B : S256x64.Idx → α) : S256x128.Idx → α := fun i =>
  if h : (i 1).val < 64 then A (ix2 (i 0) ⟨(i 1).val, h⟩)
  else B (ix2 (i 0) ⟨(i 1).val - 64, by have h128 : (i 1).val < 128 := (i 1).isLt; omega⟩)

/-- The context block of a batch and a half: the contexts of local heads `2 h` and `2 h + 1`. -/
def ctxV (c : Dev nD) (b h : Fin 2) : FVec F S256x128 .bf16 :=
  sideBySide (hd m c b ⟨2 * h.val, by omega⟩) (hd m c b ⟨2 * h.val + 1, by omega⟩)

/-- The same as the contents of the buffer it is kept in. -/
def ctxC (c : Dev nD) : (b h : Fin 2) → Buf (Elt F) ((ctxM b h).view.loc (c : Thread nD τ))
  | 0, 0 => ctxV m c 0 0
  | 0, 1 => ctxV m c 0 1
  | 1, 0 => ctxV m c 1 0
  | 1, 1 => ctxV m c 1 1

/-- What the landing buffer holds once every copy has landed: in slot `(k, b, h)` the context block `(b, h)` of the device
    the copy came from. -/
def commC (c : Dev nD) : Buf (Elt F) ((c : Thread nD τ).loc cc0_scratch11) := fun i : S3x2x2x256x128.Idx =>
  ctxV m (origin (i 0) c) (i 1) (i 2) (ix2 (i 3) (i 4))

/-- A landed block as it is read back. -/
def cmV (c : Dev nD) (k : Fin 3) (b h : Fin 2) : Vec F S1x1x1x256x128 .bf16 := fun i => ctxV m (origin k c) b h (ix2 (i 3) (i 4))

/-- The output weights, and the 128 rows that belong to half `h` of device `d`'s heads. -/
def woS (c : Dev nD) : FVec F S1024x512 .bf16 := k0_pay18 (V m c main_arg4)

theorem row_lt (d : Dev nD) (h : Fin 2) (r : Fin 128) : 256 * d.val + 128 * h.val + r.val < 1024 := by
  have := d.isLt; have := r.isLt; have := h.isLt; simp only [nD] at *; omega

def wb (c d : Dev nD) (h : Fin 2) : Vec F S128x512 .bf16 := fun i => woS m c (ix2 ⟨256 * d.val + 128 * h.val + (i 0).val, row_lt d h (i 0)⟩ (i 1))

/-- The accumulator of each batch: the device's own contexts; then the first halves that arrived; then the second halves. -/
def acc00 (c : Dev nD) : FVec F S1x256x512 .f32 := k0_pay19 (ctxV m c 0 0) (wb m c c 0) (ctxV m c 0 1) (wb m c c 1)
def acc10 (c : Dev nD) : FVec F S1x256x512 .f32 := k0_pay20 (ctxV m c 1 0) (wb m c c 0) (ctxV m c 1 1) (wb m c c 1)
def acc01 (c : Dev nD) : FVec F S1x256x512 .f32 :=
  k0_pay23 (k0_pay21 (acc00 m c)) (k0_pay22 (cmV m c 0 0 0) (wb m c (origin 0 c) 0)) (cmV m c 1 0 0) (wb m c (origin 1 c) 0) (cmV m c 2 0 0) (wb m c (origin 2 c) 0)
def acc02 (c : Dev nD) : FVec F S1x256x512 .f32 :=
  k0_pay26 (k0_pay24 (acc01 m c)) (k0_pay25 (cmV m c 0 0 1)) (wb m c (origin 0 c) 1) (fun _ => FloatOps.ofBits .f32 0#32) (cmV m c 1 0 1) (wb m c (origin 1 c) 1) (cmV m c 2 0 1) (wb m c (origin 2 c) 1)
def acc11 (c : Dev nD) : FVec F S1x256x512 .f32 :=
  k0_pay28 (k0_pay27 (acc10 m c) (cmV m c 0 1 0) (wb m c (origin 0 c) 0) (cmV m c 1 1 0) (wb m c (origin 1 c) 0) (cmV m c 2 1 0) (wb m c (origin 2 c) 0))
def acc12 (c : Dev nD) : FVec F S1x256x512 .f32 :=
  k0_pay32 (k0_pay29 (acc11 m c)) (k0_pay30 (cmV m c 0 1 1) (wb m c (origin 0 c) 1) (cmV m c 1 1 1) (wb m c (origin 1 c) 1)) (k0_pay31 (cmV m c 2 1 1)) (wb m c (origin 2 c) 1)

/-- The kernel's result on device `c`. -/
def outV (c : Dev nD) : Buf (Elt F) ((c : Thread nD τ).loc main_v3) := fun i : S2x256x512.Idx =>
  if (i 0).val = 0 then acc02 m c (ix3 0 (i 1) (i 2)) else acc12 m c (ix3 0 (i 1) (i 2))

/-! ## The schedule -/

/-- The share of a context block that the copy in direction `k` reads; the device keeps the fourth. -/
def qs : Fin 3 → PosShare TreeShare
  | 0 => fullShare.left.left
  | 1 => fullShare.left.right
  | 2 => fullShare.right.left
def qOwn : PosShare TreeShare := fullShare.right.right

abbrev commPts (c : Dev nD) (i : Slot) (f : Buf (Elt F) ((commM i).view.loc (c : Thread nD τ))) : sProp 𝕄 :=
  (commM i).view.loc (c : Thread nD τ) ↦[(commM i).view.set]{fullShare} f
abbrev ctxPts (c : Dev nD) (b h : Fin 2) (q : PosShare TreeShare) : sProp 𝕄 :=
  (ctxM b h).view.loc (c : Thread nD τ) ↦[(ctxM b h).view.set]{q} ctxC m c b h

/-- One block of the landing buffer at whatever it holds, its receive cell known open. -/
def handed (c : Dev nD) (i : Slot) : sProp 𝕄 := iprop((∃ f, commPts c i f) ∗ reached ER (recvCell c i) 0)

/-- Duty `k` of `c`'s barrier cell: the four blocks that `c`'s copies in direction `k` land in. -/
def barPay (c : Dev nD) (k : Fin 3) : sProp 𝕄 :=
  iprop(handed (F := F) (peer k c) (k, 0, 0) ∗ handed (F := F) (peer k c) (k, 0, 1) ∗ handed (F := F) (peer k c) (k, 1, 0) ∗ handed (F := F) (peer k c) (k, 1, 1))
/-- The landing buffer's final contents, seen from one block. -/
def landed (c : Dev nD) (i : Slot) : Buf (Elt F) ((commM i).view.loc (c : Thread nD τ)) := commC m c
def recvPay (c : Dev nD) (i : Slot) : sProp 𝕄 := commPts c i (landed m c i)
def sendPay (c : Dev nD) (i : Slot) : sProp 𝕄 := ctxPts m c i.2.1 i.2.2 (qs i.1)

/-- One round on every cell: three duties on a barrier cell, one on a send or a receive cell. -/
def sched : Rounds.Schedule (GSem nD τ sig) (Fin 3) 𝕄 where
  duties g r := if r = 0 ∧ g.1.2 = .tc then (match role g.2 with | .bar => Finset.univ | .send _ => {0} | .recv _ => {0} | .own => ∅) else ∅
  unitless _ := False
  amount g _ _ := match role g.2 with | .bar => 1 | _ => N
  payload g _ d := match role g.2 with
    | .bar => barPay g.1.1 d
    | .send i => sendPay m g.1.1 i
    | .recv i => recvPay m g.1.1 i
    | .own => iprop(emp)
  amount_pos g _ _ _ := by
    split
    · exact Nat.one_pos
    · exact N_pos

instance sched_payload_storable (g : GSem nD τ sig) (r : ℕ) (d : Fin 3) : BI.Storable (upEmb : UEmb _ 𝕄) ((sched (F := F) m).payload g r d) := by
  dsimp only [sched]
  unfold barPay handed recvPay sendPay
  split <;> infer_instance

section Tables

variable (c : Dev nD) (i : Slot)

theorem duties_bar : (sched m).duties (barCell c) 0 = Finset.univ := rfl
theorem duties_send : (sched m).duties (sendCell c i) 0 = {0} := by dsimp only [sched]; rw [if_pos ⟨rfl, rfl⟩, role_send]
theorem duties_recv : (sched m).duties (recvCell c i) 0 = {0} := by dsimp only [sched]; rw [if_pos ⟨rfl, rfl⟩, role_recv]
theorem duties_later (g : GSem nD τ sig) : ∀ r, 1 ≤ r → (sched (F := F) m).duties g r = ∅ := fun r hr => by
  dsimp only [sched]; rw [if_neg (fun h => by omega)]

theorem amount_bar (d : Fin 3) : (sched m).amount (barCell c) 0 d = 1 := rfl
theorem amount_send (d : Fin 3) : (sched m).amount (sendCell c i) 0 d = N := by dsimp only [sched]; rw [role_send]
theorem amount_recv (d : Fin 3) : (sched m).amount (recvCell c i) 0 d = N := by dsimp only [sched]; rw [role_recv]

theorem payload_bar (k : Fin 3) : (sched m).payload (barCell c) 0 k = barPay c k := rfl
theorem payload_send (d : Fin 3) : (sched m).payload (sendCell c i) 0 d = sendPay m c i := by dsimp only [sched]; rw [role_send]
theorem payload_recv (d : Fin 3) : (sched m).payload (recvCell c i) 0 d = recvPay m c i := by dsimp only [sched]; rw [role_recv]

theorem expect_bar : (sched m).expect (barCell c) 0 = 3 := by
  unfold Schedule.expect Schedule.amountOf
  rw [duties_bar, Finset.sum_congr rfl fun d _ => amount_bar m c d]; rfl
theorem expect_send : (sched m).expect (sendCell c i) 0 = N := by
  unfold Schedule.expect Schedule.amountOf; rw [duties_send, Finset.sum_singleton, amount_send]
theorem expect_recv : (sched m).expect (recvCell c i) 0 = N := by
  unfold Schedule.expect Schedule.amountOf; rw [duties_recv, Finset.sum_singleton, amount_recv]

theorem rest_bar : bigSep ((sched m).duties (barCell c) 0 \ ∅) (fun d => (sched m).payload (barCell c) 0 d)
    = iprop(barPay (F := F) c 0 ∗ barPay (F := F) c 1 ∗ barPay (F := F) c 2) := by
  rw [Finset.sdiff_empty, duties_bar, show (Finset.univ : Finset (Fin 3)) = {0, 1, 2} from by decide, bigSep_insert (by decide), bigSep_insert (by decide), bigSep_singleton]
  rfl
theorem rest_send : bigSep ((sched m).duties (sendCell c i) 0 \ ∅) (fun d => (sched m).payload (sendCell c i) 0 d) = sendPay m c i := by
  rw [Finset.sdiff_empty, duties_send, bigSep_singleton, payload_send]
theorem rest_recv : bigSep ((sched m).duties (recvCell c i) 0 \ ∅) (fun d => (sched m).payload (recvCell c i) 0 d) = recvPay m c i := by
  rw [Finset.sdiff_empty, duties_recv, bigSep_singleton, payload_recv]

end Tables

/-! ## What a device owes, and the order of the waits -/

/-- What is owed for a list of cells, the first to be paid outermost. -/
def debt : List (GSem nD τ sig × ℕ) → CellTallies nD τ sig Unit
  | [] => 0
  | x :: l => debt l + tallyAt x.1 () x.2

/-- The slots in the order in which a device's copies fill them. -/
abbrev order : List Slot := [(2,0,0), (0,0,0), (1,0,0), (2,0,1), (0,0,1), (1,0,1), (2,1,0), (0,1,0), (1,1,0), (2,1,1), (0,1,1), (1,1,1)]

/-- What the copies into the listed slots pay. -/
abbrev recvDues (c : Dev nD) (l : List Slot) : List (GSem nD τ sig × ℕ) := l.map fun i => (recvCell (peer i.1 c) i, N)

/-- Everything device `c` pays others: a unit on each other barrier cell, then each copy's credit. -/
abbrev dues (c : Dev nD) : List (GSem nD τ sig × ℕ) :=
  (barCell (origin 0 c), 1) :: (barCell (origin 1 c), 1) :: (barCell (origin 2 c), 1) :: recvDues c order

def O₀ (c : Dev nD) : CellTallies nD τ sig Unit := debt (dues c)

def L (g : GSem nD τ sig) : Finset Unit := if g.1.2 = .tc then {()} else ∅
/-- Barrier cells are waited for below receive cells, all else below both. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem debt_pos {l : List (GSem nD τ sig × ℕ)} {g : GSem nD τ sig} {u : Unit} (h : 0 < debt l g u) : ∃ x ∈ l, x.1 = g := by
  induction l with
  | nil => exact absurd h (Nat.lt_irrefl 0)
  | cons x l ih =>
    unfold debt at h
    rw [Pi.add_apply, Finsupp.add_apply] at h
    rcases Nat.add_pos_iff_pos_or_pos.mp h with h | h
    · obtain ⟨y, hy, e⟩ := ih h; exact ⟨y, List.mem_cons_of_mem _ hy, e⟩
    · rw [tallyAt_apply] at h
      split at h
      · next hg => exact ⟨x, List.mem_cons_self .., hg.1.symm⟩
      · exact absurd h (Nat.lt_irrefl 0)

/-- A device may wait on one of its cells while it owes only cells above that one. -/
theorem mayWait (c : Dev nD) (sm : SemLoc sig) (l : List (GSem nD τ sig × ℕ))
    (hl : ∀ x ∈ l, x.1.1.2 = .tc ∧ lv ((c : Thread nD τ), sm) () < lv x.1 ()) :
    (levAts L lv : sProp 𝕄) ⊢ MayWait (c : Thread nD τ) sm () (debt l) :=
  MayOwe.of_cut (L := L) (lev := lv) (lv ((c : Thread nD τ), sm) ())
    (fun p hp => by rw [Finset.mem_singleton.mp hp, L_tc]; exact Finset.mem_singleton_self _)
    (fun g u hg => by
      obtain ⟨x, hx, rfl⟩ := debt_pos hg
      unfold L; rw [if_pos (hl x hx).1]; exact Finset.mem_singleton_self _)
    (fun p hp => by rw [Finset.mem_singleton.mp hp])
    (fun g u hg => by
      obtain ⟨x, hx, rfl⟩ := debt_pos hg
      exact (hl x hx).2)

theorem lv_recv (c : Dev nD) (i : Slot) : lv (recvCell c i) () = 2 := by dsimp only [lv]; rw [role_recv]

/-- The barrier cell and the cells of the device's own copies may be waited for while landings are owed. -/
theorem mayWait_recv (c : Dev nD) (sm : SemLoc sig) (l : List Slot) (h : lv ((c : Thread nD τ), sm) () < 2) :
    (levAts L lv : sProp 𝕄) ⊢ MayWait (c : Thread nD τ) sm () (debt (recvDues c l)) :=
  mayWait c sm _ fun x hx => by
    obtain ⟨i, -, rfl⟩ := List.mem_map.mp hx
    exact ⟨rfl, by rw [lv_recv]; exact h⟩

end Cert.KernelIdeal.Talk

end
-- ==== Proof.KernelIdeal.Steps.lean ====
/-
  The protocol's statements, one lemma for each kind of statement, at a symbolic device and slot: the signal that hands over a
  neighbour's landing blocks, the barrier wait that receives the peers' blocks, the remote copy of a context block, the wait
  for a landing and the wait for a departure.
-/
module

public import proofs.«01_k».proof.Proof.KernelIdeal.Protocol
public import Idealize.ShloMosaic.Lib.Pipeline.Value

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Reading one block of the landing buffer -/

theorem commM_read (i : Slot) (f : S3x2x2x256x128.Idx → Elt F .bf16) (r : Fin 256) (q : Fin 128) :
    (commM i).view.read (Elt F) f (ix2 r q : S256x128.Idx) = f (ix5 i.1 i.2.1 i.2.2 r q) := by
  unfold commM
  rw [Memref.read_squeeze_slice _ _ _ _ shapeCasts_S1x1x1x256x128_S256x128]
  refine (shapeCast_apply _ _ (ix2 r q) (ix5 0 0 0 r q : S1x1x1x256x128.Idx) ?_).trans ?_
  · show (S1x1x1x256x128.rowMajor (ix5 0 0 0 r q)).val = (S256x128.rowMajor (ix2 r q)).val
    rw [Shape.rowMajor_val_five, Shape.rowMajor_val_two]
    simp [ix5, ix2, S1x1x1x256x128, S256x128]
  · refine congrArg f (funext fun a => Fin.ext ?_)
    fin_cases a <;> simp [ix5, Rect.unit, Rect.emb, View.emb]

theorem ix2_self (x : S256x128.Idx) : (ix2 (x 0) (x 1) : S256x128.Idx) = x := funext fun a => by fin_cases a <;> rfl

/-- Every block of 256 × 128 credits the same. -/
theorem block_credit (dst : Memref sig .tc .vmem S256x128 .bf16) : dst.view.dmaCredit = N := rfl

/-- A context block read back is the block. -/
theorem ctx_read (c : Dev nD) (b h : Fin 2) : (ctxM b h).view.read (Elt F) (ctxC m c b h) = ctxV m c b h := by
  fin_cases b <;> fin_cases h <;> rfl

/-- What a landing leaves in a block is the final contents of the landing buffer there. -/
theorem landing (c : Dev nD) (k : Fin 3) (b h : Fin 2) (f : Buf (Elt F) ((commM (k, b, h)).view.loc (peer k c : Thread nD τ))) :
    ((commM (k, b, h)).view.loc (peer k c : Thread nD τ) ↦[(commM (k, b, h)).view.set]{fullShare}
      (commM (k, b, h)).view.write (Elt F) f ((ctxM b h).view.read (Elt F) (ctxC m c b h)) Finset.univ : sProp 𝕄)
      = recvPay m (peer k c) (k, b, h) := by
  have e : (ctxM b h).view.read (Elt F) (ctxC m c b h) = (commM (k, b, h)).view.read (Elt F) (landed m (peer k c) (k, b, h)) := by
    rw [ctx_read]
    funext x
    rw [← ix2_self x]
    refine Eq.trans ?_ (commM_read (k, b, h) (landed m (peer k c) (k, b, h)) (x 0) (x 1)).symm
    show ctxV m c b h (ix2 (x 0) (x 1)) = ctxV m (origin k (peer k c)) b h (ix2 (x 0) (x 1))
    rw [origin_peer]
  unfold recvPay commPts
  refine pointsTo_congr fun j hj => ?_
  obtain ⟨x, -, rfl⟩ := Finset.mem_map.mp hj
  rw [View.write_emb_of_mem _ _ (Finset.mem_univ _), e]
  rfl

/-! ## The resources a device walks with -/

/-- The cells of the protocol, and their invariants at the names the launch gave them. -/
def cells : Finset (GSem nD τ sig) :=
  Finset.univ.image barCell ∪ (Finset.univ : Finset (Dev nD × Slot)).image (fun x => sendCell x.1 x.2)
    ∪ (Finset.univ : Finset (Dev nD × Slot)).image (fun x => recvCell x.1 x.2)

theorem bar_mem (c : Dev nD) : barCell c ∈ cells :=
  Finset.mem_union_left _ (Finset.mem_union_left _ (Finset.mem_image_of_mem barCell (Finset.mem_univ c)))
theorem send_mem (c : Dev nD) (i : Slot) : sendCell c i ∈ cells :=
  Finset.mem_union_left _ (Finset.mem_union_right _ (Finset.mem_image.mpr ⟨(c, i), Finset.mem_univ _, rfl⟩))
theorem recv_mem (c : Dev nD) (i : Slot) : recvCell c i ∈ cells :=
  Finset.mem_union_right _ (Finset.mem_image.mpr ⟨(c, i), Finset.mem_univ _, rfl⟩)

def invs (K : GSem nD τ sig → ℕ) : sProp 𝕄 := bigSep cells fun g => cellInv ER (sched m) (K g) g

instance invs_persistent (K : GSem nD τ sig → ℕ) : BI.Persistent (invs m K) := by unfold invs; infer_instance

theorem invs_at (K : GSem nD τ sig → ℕ) {g : GSem nD τ sig} (hg : g ∈ cells) : invs m K ⊢ cellInv ER (sched m) (K g) g :=
  BI.bigSep_elim hg

/-- The tokens of the copies into the listed slots. -/
def tokens (c : Dev nD) : List Slot → sProp 𝕄
  | [] => iprop(emp)
  | i :: l => iprop((dutyTok ER (recvCell (peer i.1 c) i) 0 0 ∗ dutyTok ER (sendCell c i) 0 0) ∗ tokens c l)

/-- The blocks the listed copies land in. -/
def blocks (c : Dev nD) : List Slot → sProp 𝕄
  | [] => iprop(emp)
  | i :: l => iprop(handed (peer i.1 c) i ∗ blocks c l)

/-- The right to wait for the departures, or the landings, of the listed slots. -/
def departs (c : Dev nD) : List Slot → sProp 𝕄
  | [] => iprop(emp)
  | i :: l => iprop((atPos ER (sendCell c i) 0 ∅ 0 ∗ reached ER (sendCell c i) 0) ∗ departs c l)
def arrives (c : Dev nD) : List Slot → sProp 𝕄
  | [] => iprop(emp)
  | i :: l => iprop((atPos ER (recvCell c i) 0 ∅ 0 ∗ cred (tallyAt (recvCell c i) () N)) ∗ arrives c l)

theorem tokens_cons (c : Dev nD) (i : Slot) (l : List Slot) : tokens (F := F) c (i :: l)
    = iprop((dutyTok ER (recvCell (peer i.1 c) i) 0 0 ∗ dutyTok ER (sendCell c i) 0 0) ∗ tokens c l) := rfl
theorem blocks_cons (c : Dev nD) (i : Slot) (l : List Slot) : blocks (F := F) c (i :: l) = iprop(handed (peer i.1 c) i ∗ blocks c l) := rfl
theorem departs_cons (c : Dev nD) (i : Slot) (l : List Slot) : departs (F := F) c (i :: l)
    = iprop((atPos ER (sendCell c i) 0 ∅ 0 ∗ reached ER (sendCell c i) 0) ∗ departs c l) := rfl
theorem arrives_cons (c : Dev nD) (i : Slot) (l : List Slot) : arrives (F := F) c (i :: l)
    = iprop((atPos ER (recvCell c i) 0 ∅ 0 ∗ cred (tallyAt (recvCell c i) () N)) ∗ arrives c l) := rfl

/-- The departures under way. -/
def leaving (c : Dev nD) (i : Slot) : sProp 𝕄 := iprop(atPos ER (sendCell c i) 0 ∅ 0 ∗ cred (tallyAt (sendCell c i) () N))

theorem close (κ : ℕ) (g : GSem nD τ sig) :
    iprop(cellInv ER (sched m) κ g ∗ atPos ER g (0 + 1) ∅ 0) ⊢ (|={Set.univ}=> semVal g 0 : sProp 𝕄) :=
  Rounds.cell_close ER (sched m) (Set.mem_univ κ) id (duties_later m g)

/-! ## The statements -/

section Statements

variable (K : GSem nD τ sig → ℕ) (c : Dev nD)

/-- A remote copy of context block `(b, h)` in direction `k`: it pays the landing, lends the share of the source. -/
theorem send_step {α : Type} (Q : α → sProp 𝕄) (k : Fin 3) (b h : Fin 2) (l : List Slot) (W : Waits sig Unit) {d : Dev nD} (hd : d = peer k c)
    {hsc : (commM (k, b, h)).view.ref.isScScratch = false} {hsrc : (ctxM b h).view.WordExact} {hdst : (commM (k, b, h)).view.WordExact}
    {hsem : DmaTarget.Typed .vmem (.dma (recvS (k, b, h))) (.remote (Dev.tc d) (commM (k, b, h)) (.dma (sendS (k, b, h))) hsc)}
    {kt : PUnit → Prog (TpuEff nD τ sig (Elt F) Λ₀ .tc) α} :
    iprop(invs m K ∗ ctxPts m c b h (qs k) ∗ blocks c ((k, b, h) :: l) ∗ tokens c ((k, b, h) :: l) ∗ departs c ((k, b, h) :: l)
        ∗ owes (c : Thread nD τ) (debt (recvDues c ((k, b, h) :: l))) W)
      ⊢ iprop(((leaving c (k, b, h) ∗ blocks c l ∗ tokens c l ∗ departs c l ∗ owes (c : Thread nD τ) (debt (recvDues c l)) W)
            -∗ wp frame (wpE (defs₀ (F := F)) 𝒱₀ c none) Set.univ (kt ⟨⟩) Q)
          -∗ wp frame (wpE (defs₀ (F := F)) 𝒱₀ c none) Set.univ
              (.op (.enqueueDma (ctxM b h) (.remote (Dev.tc d) (commM (k, b, h)) (.dma (sendS (k, b, h))) hsc) (.dma (recvS (k, b, h))) hsrc hdst hsem) kt) Q) := by
  subst hd
  rw [blocks_cons, tokens_cons, departs_cons]
  unfold handed
  iintro ⟨#HI, Hx, ⟨⟨⟨%fn, Hb⟩, #Hr⟩, Hbs⟩, ⟨⟨HtR, HtS⟩, Hts⟩, ⟨⟨Hat, #HrS⟩, Hds⟩, HO⟩ Hk
  ihave #HI1 := (invs_at m K (send_mem c (k, b, h))) $$ HI
  ihave #HI2 := (invs_at m K (recv_mem (peer k c) (k, b, h))) $$ HI
  iapply (Rounds.wp_send_pointsTo 𝒱₀ ER (sched m) (c : Thread nD τ) none (c' := (peer k c : Thread nD τ)) (src := ctxM b h) (dst := commM (k, b, h))
      (sS := .dma (sendS (k, b, h))) (sem := .dma (recvS (k, b, h))) (q := qs k) (fs := ctxC m c b h) (κ₁ := K (sendCell c (k, b, h))) (κ₂ := K (recvCell (peer k c) (k, b, h)))
      (r₁ := 0) (r₂ := 0) (d₁ := 0) (d₂ := 0) (fd := fn)
      (by rw [duties_send]; exact Finset.mem_singleton_self _) (by rw [duties_recv]; exact Finset.mem_singleton_self _)
      () () N rfl (amount_send m c (k, b, h) 0) (amount_recv m (peer k c) (k, b, h) 0) (debt (recvDues c l)) rfl (W := W)
      (by rw [payload_send]; exact BI.Entails.refl _)
      (by rw [payload_recv, landing])) $$ [Hx Hb HO HtS HtR]
  · isplitr; · iexact HI1
    isplitr; · iexact HI2
    isplitl [Hx]; · iexact Hx
    isplitl [Hb]; · iexact Hb
    isplitl [HO]; · iexact HO
    isplitl [HtS]; · iexact HtS
    isplitr; · iexact HrS
    isplitl [HtR]; · iexact HtR
    iexact Hr
  iintro ⟨HcS, HO⟩
  iapply Hk
  unfold leaving
  isplitl [Hat HcS]; · isplitl [Hat] <;> iassumption
  isplitl [Hbs]; · iexact Hbs
  isplitl [Hts]; · iexact Hts
  isplitl [Hds]; · iexact Hds
  iexact HO

/-- The wait for the landing in slot `i`: the block comes at the sender's contents, and the cell is done with. -/
theorem recv_step {α : Type} (Q : α → sProp 𝕄) (i : Slot) (l : List Slot) (W : Waits sig Unit) {sp : Space} {s : Shape} {e : EltTy}
    {src : Memref sig .tc sp s e} {dst : Memref sig .tc .vmem S256x128 .bf16}
    {hsrc : src.view.WordExact} {hdst : dst.view.WordExact}
    {kt : PUnit → Prog (TpuEff nD τ sig (Elt F) Λ₀ .tc) α} :
    iprop(invs m K ∗ arrives c (i :: l) ∗ owes (c : Thread nD τ) 0 W)
      ⊢ iprop(((arrives c l ∗ recvPay m c i ∗ semVal (recvCell c i) 0 ∗ owes (c : Thread nD τ) 0 (insert (SemLoc.dma (recvS i), ()) W))
            -∗ wp frame (wpE (defs₀ (F := F)) 𝒱₀ c none) Set.univ (kt ⟨⟩) Q)
          -∗ wp frame (wpE (defs₀ (F := F)) 𝒱₀ c none) Set.univ (.op (.waitDma2 (recvS i) src dst hsrc hdst) kt) Q) := by
  rw [arrives_cons]
  iintro ⟨#HI, ⟨⟨Hat, HcV⟩, Hrest⟩, HO⟩ Hk
  ihave #HI1 := (invs_at m K (recv_mem c i)) $$ HI
  iapply (Rounds.wp_wait_rest_token 𝒱₀ ER (sched m) (c : Thread nD τ) none (κ := K (recvCell c i)) (k' := N)
      (fun Kc => (wpE_waitDma2_eq 𝒱₀ (c : Thread nD τ) none Set.univ Kc).trans (by rw [block_credit])) (Set.mem_univ _) () (O := 0)
      (W := W) (R := 0) (m := 0) (T := ∅)
      ((Nat.zero_add _).trans (expect_recv m c i).symm)) $$ [HcV HO Hat]
  · isplitr; · iexact HI1
    isplitl [HcV]; · iexact HcV
    isplitl [HO]; · iexact HO
    isplitr; · rw [MayWait_zero]; iempintro
    iexact Hat
  iintro ⟨HO, Hat, -, Hpay⟩
  ihave Hp := (Entails.of_eq (rest_recv m c i)) $$ Hpay
  imod (close m (K (recvCell c i)) (recvCell c i)) $$ [Hat] with Hz
  · isplitr; · iexact HI1
    iexact Hat
  iapply Hk
  isplitl [Hrest]; · iexact Hrest
  isplitl [Hp]; · iexact Hp
  isplitl [Hz]; · iexact Hz
  iexact HO

/-- The wait for the departure from slot `i`: the share of the source comes back, and the cell is done with. -/
theorem depart_step {α : Type} (Q : α → sProp 𝕄) (i : Slot) (W : Waits sig Unit) {sp : Space} {s : Shape} {e : EltTy}
    {src : Memref sig .tc sp s e} {dst : Memref sig .tc .vmem S256x128 .bf16}
    {hsrc : src.view.WordExact} {hdst : dst.view.WordExact}
    {kt : PUnit → Prog (TpuEff nD τ sig (Elt F) Λ₀ .tc) α} :
    iprop(invs m K ∗ leaving c i ∗ owes (c : Thread nD τ) 0 W)
      ⊢ iprop(((sendPay m c i ∗ semVal (sendCell c i) 0 ∗ owes (c : Thread nD τ) 0 (insert (SemLoc.dma (sendS i), ()) W))
            -∗ wp frame (wpE (defs₀ (F := F)) 𝒱₀ c none) Set.univ (kt ⟨⟩) Q)
          -∗ wp frame (wpE (defs₀ (F := F)) 𝒱₀ c none) Set.univ (.op (.waitDma2 (sendS i) src dst hsrc hdst) kt) Q) := by
  unfold leaving
  iintro ⟨#HI, ⟨Hat, HcV⟩, HO⟩ Hk
  ihave #HI1 := (invs_at m K (send_mem c i)) $$ HI
  iapply (Rounds.wp_wait_rest_token 𝒱₀ ER (sched m) (c : Thread nD τ) none (κ := K (sendCell c i)) (k' := N)
      (fun Kc => (wpE_waitDma2_eq 𝒱₀ (c : Thread nD τ) none Set.univ Kc).trans (by rw [block_credit])) (Set.mem_univ _) () (O := 0)
      (W := W) (R := 0) (m := 0) (T := ∅)
      ((Nat.zero_add _).trans (expect_send m c i).symm)) $$ [HcV HO Hat]
  · isplitr; · iexact HI1
    isplitl [HcV]; · iexact HcV
    isplitl [HO]; · iexact HO
    isplitr; · rw [MayWait_zero]; iempintro
    iexact Hat
  iintro ⟨HO, Hat, -, Hpay⟩
  ihave Hp := (Entails.of_eq (rest_send m c i)) $$ Hpay
  imod (close m (K (sendCell c i)) (sendCell c i)) $$ [Hat] with Hz
  · isplitr; · iexact HI1
    iexact Hat
  iapply Hk
  isplitl [Hp]; · iexact Hp
  isplitl [Hz]; · iexact Hz
  iexact HO

/-- One block of the device's own landing buffer, with the receive cell known open. -/
def ownBlocks (k : Fin 3) : sProp 𝕄 :=
  iprop(handed (F := F) c (k, 0, 0) ∗ handed (F := F) c (k, 0, 1) ∗ handed (F := F) c (k, 1, 0) ∗ handed (F := F) c (k, 1, 1))

/-- The signal to the device whose copies land in direction `k`: it hands over the four blocks. -/
theorem signal_step {α : Type} (Q : α → sProp 𝕄) (k : Fin 3) (l : List (GSem nD τ sig × ℕ)) (W : Waits sig Unit) {d : Dev nD} (hd : d = origin k c)
    {kt : PUnit → Prog (TpuEff nD τ sig (Elt F) Λ₀ .tc) α} :
    iprop(invs m K ∗ ownBlocks c k ∗ dutyTok ER (barCell (origin k c)) 0 k ∗ reached ER (barCell (origin k c)) 0
        ∗ owes (c : Thread nD τ) (debt ((barCell (origin k c), 1) :: l)) W)
      ⊢ iprop((owes (c : Thread nD τ) (debt l) W -∗ wp frame (wpE (defs₀ (F := F)) 𝒱₀ c none) Set.univ (kt ⟨⟩) Q)
          -∗ wp frame (wpE (defs₀ (F := F)) 𝒱₀ c none) Set.univ (.op (.semSignal (Dev.tc d) barS 1) kt) Q) := by
  subst hd
  iintro ⟨#HI, Hb, Ht, Hr, HO⟩ Hk
  ihave #HI1 := (invs_at m K (bar_mem (origin k c))) $$ HI
  iapply (Rounds.wp_signal 𝒱₀ ER (sched m) (c : Thread nD τ) none (dst := (origin k c : Thread nD τ)) (sem := barS) (r := 0) (d := k) (κ := K (barCell (origin k c)))
      (by rw [duties_bar]; exact Finset.mem_univ _) (amount_bar m (origin k c) k) () (debt l) rfl) $$ [HO Ht Hb Hr]
  · isplitr; · iexact HI1
    isplitl [HO]; · iexact HO
    isplitl [Ht]; · iexact Ht
    isplitl [Hb]
    · rw [payload_bar]; unfold barPay ownBlocks; rw [peer_origin]; iexact Hb
    iexact Hr
  iexact Hk

/-- The barrier wait: the twelve blocks that the device's copies land in. -/
theorem barrier_step {α : Type} (Q : α → sProp 𝕄) (W : Waits sig Unit) {kt : PUnit → Prog (TpuEff nD τ sig (Elt F) Λ₀ .tc) α} :
    iprop(invs m K ∗ levAts L lv ∗ cred (tallyAt (barCell c) () 3) ∗ atPos ER (barCell c) 0 ∅ 0 ∗ owes (c : Thread nD τ) (debt (recvDues c order)) W)
      ⊢ iprop(((blocks c order ∗ semVal (barCell c) 0 ∗ owes (c : Thread nD τ) (debt (recvDues c order)) (insert (SemLoc.reg barS, ()) W))
            -∗ wp frame (wpE (defs₀ (F := F)) 𝒱₀ c none) Set.univ (kt ⟨⟩) Q)
          -∗ wp frame (wpE (defs₀ (F := F)) 𝒱₀ c none) Set.univ (.op (.semWait barS 3) kt) Q) := by
  iintro ⟨#HI, Hlev, Hc, Hat, HO⟩ Hk
  ihave #HI1 := (invs_at m K (bar_mem c)) $$ HI
  iapply (Rounds.wp_wait_rest_token 𝒱₀ ER (sched m) (c : Thread nD τ) none (κ := K (barCell c))
      (wpE_semWait_eq 𝒱₀ (c : Thread nD τ) none Set.univ) (Set.mem_univ _) () (O := debt (recvDues c order)) (W := W) (R := 0) (m := 0) (T := ∅)
      ((Nat.zero_add 3).trans (expect_bar m c).symm)) $$ [Hc HO Hat Hlev]
  · isplitr; · iexact HI1
    isplitl [Hc]; · iexact Hc
    isplitl [HO]; · iexact HO
    isplitl [Hlev]; · iapply (mayWait_recv c (.reg barS) order (by dsimp only [lv]; rw [role_bar]; decide)); iexact Hlev
    iexact Hat
  iintro ⟨HO, Hat, -, Hpay⟩
  ihave Hp := (Entails.of_eq (rest_bar m c)) $$ Hpay
  imod (close m (K (barCell c)) (barCell c)) $$ [Hat] with Hz
  · isplitr; · iexact HI1
    iexact Hat
  iapply Hk
  isplitr [HO Hz]
  · unfold barPay
    icases Hp with ⟨⟨A0, A1, A2, A3⟩, ⟨B0, B1, B2, B3⟩, C0, C1, C2, C3⟩
    rw [show order = [(2,0,0), (0,0,0), (1,0,0), (2,0,1), (0,0,1), (1,0,1), (2,1,0), (0,1,0), (1,1,0), (2,1,1), (0,1,1), (1,1,1)] from rfl]
    simp only [blocks_cons]
    isplitl [C0]; · iexact C0
    isplitl [A0]; · iexact A0
    isplitl [B0]; · iexact B0
    isplitl [C1]; · iexact C1
    isplitl [A1]; · iexact A1
    isplitl [B1]; · iexact B1
    isplitl [C2]; · iexact C2
    isplitl [A2]; · iexact A2
    isplitl [B2]; · iexact B2
    isplitl [C3]; · iexact C3
    isplitl [A3]; · iexact A3
    isplitl [B3]; · iexact B3
    iempintro
  isplitl [Hz]; · iexact Hz
  iexact HO

end Statements

end Cert.KernelIdeal.Talk

end
-- ==== Proof.KernelIdeal.Reads.lean ====
module

public import proofs.«01_k».proof.Proof.KernelIdeal.Steps
public import Idealize.ShloMosaic.Lib.WritesUnit
public import Idealize.ShloMosaic.Lib.Pipeline.Value
public import proofs.«01_k».proof.Proof.Gen.KernelIdeal.Points
public import proofs.«01_k».proof.Proof.Gen.KernelIdeal.Launch

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F]

local notation "𝕄" => MT nD τ sig Unit (Elt F) ℕ UU ℕ

variable (m : (ℓ : Loc nD τ sig) → Buf (Elt F) ℓ)

/-- Where a load of a unit-stride rectangle reads. -/
theorem unit_idx {s : Shape} {off size : Fin s.rank → ℕ} (inb : ∀ a, off a + size a ≤ s.size a) (x : (Rect.unit off size inb).toLoadRect.shape.Idx) (a : Fin s.rank) :
    ((Rect.unit off size inb).toLoadRect.idx x a).val = off a + (x a).val := by
  show off a + 1 * (x a).val = _
  rw [Nat.one_mul]

/-! ## Two batches, one after the other, in a 2 × 256 × 512 buffer -/

section Halves

variable {sp : Space} (M : Memref sig .tc sp S2x256x512 .f32)

/-- Batch 0 and batch 1 of such a buffer, as the copies name them. -/
abbrev batch0 : Memref sig .tc sp S256x512 .f32 := (M.slice (Rect.unit (s := S2x256x512) ![0, 0, 0] S1x256x512.size inb_S2x256x512_S1x256x512_0_0_0) (fun _ => rfl)).squeeze S256x512 squeezes_S1x256x512_S256x512
abbrev batch1 : Memref sig .tc sp S256x512 .f32 := (M.slice (Rect.unit (s := S2x256x512) ![1, 0, 0] S1x256x512.size inb_S2x256x512_S1x256x512_1_0_0) (fun _ => rfl)).squeeze S256x512 squeezes_S1x256x512_S256x512

theorem batch0_read (f : M.view.ty.Contents (Elt F)) (r : Fin 256) (q : Fin 512) :
    (batch0 M).view.read (Elt F) f (ix2 r q) = M.view.read (Elt F) f (ix3 0 r q) := by
  rw [Memref.read_squeeze_slice _ _ _ _ (show S1x256x512.ShapeCasts S256x512 by decide)]
  refine (shapeCast_apply _ _ (ix2 r q) (ix3 0 r q : S1x256x512.Idx) ?_).trans ?_
  · show (S1x256x512.rowMajor (ix3 0 r q)).val = (S256x512.rowMajor (ix2 r q)).val
    rw [Shape.rowMajor_val_three, Shape.rowMajor_val_two]
    simp [ix3, ix2, S1x256x512, S256x512]
  · exact congrArg (M.view.read (Elt F) f) (funext fun a => by fin_cases a <;> exact Fin.ext (by simp [unit_idx, ix3]))

theorem batch1_read (f : M.view.ty.Contents (Elt F)) (r : Fin 256) (q : Fin 512) :
    (batch1 M).view.read (Elt F) f (ix2 r q) = M.view.read (Elt F) f (ix3 1 r q) := by
  rw [Memref.read_squeeze_slice _ _ _ _ (show S1x256x512.ShapeCasts S256x512 by decide)]
  refine (shapeCast_apply _ _ (ix2 r q) (ix3 0 r q : S1x256x512.Idx) ?_).trans ?_
  · show (S1x256x512.rowMajor (ix3 0 r q)).val = (S256x512.rowMajor (ix2 r q)).val
    rw [Shape.rowMajor_val_three, Shape.rowMajor_val_two]
    simp [ix3, ix2, S1x256x512, S256x512]
  · exact congrArg (M.view.read (Elt F) f) (funext fun a => by fin_cases a <;> exact Fin.ext (by simp [unit_idx, ix3]))

/-- What the buffer holds once both batches are written: -/
theorem batches_read0 (f : M.view.ty.Contents (Elt F)) (p0 p1 : S256x512.Idx → Elt F .f32) (r : Fin 256) (q : Fin 512) :
    M.view.read (Elt F) ((batch1 M).view.write (Elt F) ((batch0 M).view.write (Elt F) f p0 Finset.univ) p1 Finset.univ) (ix3 0 r q) = p0 (ix2 r q) := by
  refine Eq.trans ?_ ((batch0_read M ((batch0 M).view.write (Elt F) f p0 Finset.univ) r q).symm.trans (congrFun (View.read_write_univ _ _) _))
  exact (congrArg (fun g => M.view.read (Elt F) g (ix3 0 r q)) (View.write_reshape_univ _ _ _ _)).trans
    (View.read_slice_write_of_not_mem _ _ _ _ (by
      rw [Rect.map_emb_univ, Rect.mem_set_unit]
      intro hall
      have h1 : 1 ≤ 0 := (hall 0).1
      omega))
theorem batches_read1 (f : M.view.ty.Contents (Elt F)) (p1 : S256x512.Idx → Elt F .f32) (r : Fin 256) (q : Fin 512) :
    M.view.read (Elt F) ((batch1 M).view.write (Elt F) f p1 Finset.univ) (ix3 1 r q) = p1 (ix2 r q) :=
  (batch1_read M _ r q).symm.trans (congrFun (View.read_write_univ _ _) _)
/-- the first batch's payload where the first coordinate is 0, the second's elsewhere. -/
theorem batches_read (f : M.view.ty.Contents (Elt F)) (p0 p1 : S256x512.Idx → Elt F .f32) (i : S2x256x512.Idx) :
    M.view.read (Elt F) ((batch1 M).view.write (Elt F) ((batch0 M).view.write (Elt F) f p0 Finset.univ) p1 Finset.univ) i
      = if (i 0).val = 0 then p0 (ix2 (i 1) (i 2)) else p1 (ix2 (i 1) (i 2)) := by
  by_cases h : (i 0).val = 0
  · have e : i = ix3 0 (i 1) (i 2) := funext fun a => by fin_cases a <;> first | exact Fin.ext h | rfl
    rw [if_pos h]
    exact (congrArg _ e).trans (batches_read0 M f p0 p1 (i 1) (i 2))
  · have e : i = ix3 1 (i 1) (i 2) := funext fun a => by
      fin_cases a <;> first | exact Fin.ext (by have h2 : (i 0).val < 2 := (i 0).isLt; simp; omega) | rfl
    rw [if_neg h]
    exact (congrArg _ e).trans (batches_read1 M _ p1 (i 1) (i 2))

end Halves

variable (c : Dev nD)

/-- The activations as loaded, once both copies in are done. -/
theorem x_read0 (f0 : Buf (Elt F) ((c : Thread nD τ).loc cc0_scratch0)) :
    View.readAt (Elt F) (Memref.whole cc0_scratch0).view (Rect.unit (s := S2x256x512) ![0, 0, 0] S1x256x512.size inb_S2x256x512_S1x256x512_0_0_0).toLoadRect
      ((batch1 (Memref.whole cc0_scratch0)).view.write (Elt F) ((batch0 (Memref.whole cc0_scratch0)).view.write (Elt F) f0
        (ReadAs.same.apply ((batch0 (Memref.whole main_arg0)).view.read (Elt F) (V m c main_arg0))) Finset.univ)
        (ReadAs.same.apply ((batch1 (Memref.whole main_arg0)).view.read (Elt F) (V m c main_arg0))) Finset.univ) = xV m c 0 := by
  funext i
  have e : (Rect.unit (s := S2x256x512) ![0, 0, 0] S1x256x512.size inb_S2x256x512_S1x256x512_0_0_0).emb i = ix3 0 (i 1) (i 2) :=
    funext fun a => by fin_cases a <;> exact Fin.ext (by simp [Rect.emb, Rect.unit]; try omega)
  refine (batches_read (Memref.whole cc0_scratch0) f0 _ _ ((Rect.unit (s := S2x256x512) ![0, 0, 0] S1x256x512.size inb_S2x256x512_S1x256x512_0_0_0).emb i)).trans ?_
  rw [e]
  exact (if_pos rfl).trans (batch0_read (Memref.whole main_arg0) _ _ _)

theorem x_read1 (f0 : Buf (Elt F) ((c : Thread nD τ).loc cc0_scratch0)) :
    View.readAt (Elt F) (Memref.whole cc0_scratch0).view (Rect.unit (s := S2x256x512) ![1, 0, 0] S1x256x512.size inb_S2x256x512_S1x256x512_1_0_0).toLoadRect
      ((batch1 (Memref.whole cc0_scratch0)).view.write (Elt F) ((batch0 (Memref.whole cc0_scratch0)).view.write (Elt F) f0
        (ReadAs.same.apply ((batch0 (Memref.whole main_arg0)).view.read (Elt F) (V m c main_arg0))) Finset.univ)
        (ReadAs.same.apply ((batch1 (Memref.whole main_arg0)).view.read (Elt F) (V m c main_arg0))) Finset.univ) = xV m c 1 := by
  funext i
  have e : (Rect.unit (s := S2x256x512) ![1, 0, 0] S1x256x512.size inb_S2x256x512_S1x256x512_1_0_0).emb i = ix3 1 (i 1) (i 2) :=
    funext fun a => by fin_cases a <;> exact Fin.ext (by simp [Rect.emb, Rect.unit]; try omega)
  refine (batches_read (Memref.whole cc0_scratch0) f0 _ _ ((Rect.unit (s := S2x256x512) ![1, 0, 0] S1x256x512.size inb_S2x256x512_S1x256x512_1_0_0).emb i)).trans ?_
  rw [e]
  exact (if_neg (by simp)).trans (batch1_read (Memref.whole main_arg0) _ _ _)

/-- The query weights as loaded. -/
theorem wq_read (f1 : Buf (Elt F) ((c : Thread nD τ).loc cc0_scratch1)) (o : Fin 2 → ℕ) (inb : ∀ a, o a + S512x256.size a ≤ S512x1024.size a)
    (ho : o = ![0, 256 * c.val]) :
    View.readAt (Elt F) (Memref.whole cc0_scratch1).view (Rect.unit (s := S512x256) ![0, 0] S512x256.size inb_S512x256_S512x256_0_0).toLoadRect
      (View.write (Elt F) (Memref.whole cc0_scratch1).view f1
        (ReadAs.same.apply (((Memref.whole main_arg1).slice (Rect.unit (s := S512x1024) o S512x256.size inb) (fun _ => rfl)).view.read (Elt F) (V m c main_arg1))) Finset.univ)
      = wqV m c := by
  subst ho
  funext i
  refine (congrFun (View.read_write_univ _ _) _).trans ?_
  exact congrArg (V m c main_arg1) (funext fun a => by fin_cases a <;> exact Fin.ext (by simp [unit_idx]))

/-- Keys as loaded, -/
theorem k_read (f2 : Buf (Elt F) ((c : Thread nD τ).loc cc0_scratch2)) (b : Fin 2) (j : Fin 4) (inb : ∀ a, (![b.val, j.val, 0, 0] : Fin 4 → ℕ) a + S1x1x64x256.size a ≤ S2x4x64x256.size a) :
    View.readAt (Elt F) (Memref.whole cc0_scratch2).view (Rect.unit (s := S2x4x64x256) ![b.val, j.val, 0, 0] S1x1x64x256.size inb).toLoadRect
      (View.write (Elt F) (Memref.whole cc0_scratch2).view f2 (ReadAs.same.apply ((Memref.whole main_v1).view.read (Elt F) (V m c main_v1))) Finset.univ)
      = kV m c b j := by
  funext i
  refine (congrFun (View.read_write_univ _ _) _).trans ?_
  have h0 : (i 0).val < 1 := (i 0).isLt
  have h1 : (i 1).val < 1 := (i 1).isLt
  refine congrArg (V m c main_v1) (funext fun a => Fin.ext ((unit_idx inb i a).trans ?_))
  fin_cases a
  · show b.val + (i 0).val = b.val; omega
  · show j.val + (i 1).val = j.val; omega
  · exact Nat.zero_add _
  · exact Nat.zero_add _
/-- and values. -/
theorem v_read (f3 : Buf (Elt F) ((c : Thread nD τ).loc cc0_scratch3)) (b : Fin 2) (j : Fin 4) (inb : ∀ a, (![b.val, j.val, 0, 0] : Fin 4 → ℕ) a + S1x1x64x256.size a ≤ S2x4x64x256.size a) :
    View.readAt (Elt F) (Memref.whole cc0_scratch3).view (Rect.unit (s := S2x4x64x256) ![b.val, j.val, 0, 0] S1x1x64x256.size inb).toLoadRect
      (View.write (Elt F) (Memref.whole cc0_scratch3).view f3 (ReadAs.same.apply ((Memref.whole main_v2).view.read (Elt F) (V m c main_v2))) Finset.univ)
      = vV m c b j := by
  funext i
  refine (congrFun (View.read_write_univ _ _) _).trans ?_
  have h0 : (i 0).val < 1 := (i 0).isLt
  have h1 : (i 1).val < 1 := (i 1).isLt
  refine congrArg (V m c main_v2) (funext fun a => Fin.ext ((unit_idx inb i a).trans ?_))
  fin_cases a
  · show b.val + (i 0).val = b.val; omega
  · show j.val + (i 1).val = j.val; omega
  · exact Nat.zero_add _
  · exact Nat.zero_add _

/-- The output weights as loaded. -/
theorem wo_read (f4 : Buf (Elt F) ((c : Thread nD τ).loc cc0_scratch4)) :
    View.readAt (Elt F) (Memref.whole cc0_scratch4).view (Rect.unit (s := S1024x512) ![0, 0] S1024x512.size inb_S1024x512_S1024x512_0_0).toLoadRect
      (View.write (Elt F) (Memref.whole cc0_scratch4).view f4 (ReadAs.same.apply ((Memref.whole main_arg4).view.read (Elt F) (V m c main_arg4))) Finset.univ)
      = V m c main_arg4 := by
  funext i
  refine (congrFun (View.read_write_univ _ _) _).trans ?_
  exact congrArg (V m c main_arg4) (funext fun a => by fin_cases a <;> exact Fin.ext (by simp [unit_idx]))

/-- A buffer holding the rounded output weights after they are stored whole. -/
theorem wo_stored (v : View sig .tc .vmem S1024x512 .bf16) (f : v.ty.Contents (Elt F)) (p : FVec F S1024x512 .bf16) :
    v.read (Elt F) (v.writes (Elt F) f [⟨Rect.unit (s := S1024x512) ![0, 0] S1024x512.size inb_S1024x512_S1024x512_0_0, p⟩]) = p :=
  funext fun y => View.read_writes_cons_hit_of_coords v f (Rect.unit (s := S1024x512) ![0, 0] S1024x512.size inb_S1024x512_S1024x512_0_0) p [] y y (fun a => by fin_cases a <;> simp [Rect.unit])

/-- The 128 rows of the output weights that a load at their offset brings. -/
theorem wb_read (d : Dev nD) (h : Fin 2) (o : Fin 2 → ℕ) (inb : ∀ a, o a + S128x512.size a ≤ S1024x512.size a)
    (ho : o = ![256 * d.val + 128 * h.val, 0]) :
    View.readAt (Elt F) (Memref.whole cc0_scratch5).view (Rect.unit (s := S1024x512) o S128x512.size inb).toLoadRect (woS m c) = wb m c d h := by
  subst ho
  funext i
  exact congrArg (woS m c) (funext fun a => by fin_cases a <;> exact Fin.ext (by simp [unit_idx]))

/-- A landed block as loaded. -/
theorem cm_read (k : Fin 3) (b h : Fin 2) (inb : ∀ a, (![k.val, b.val, h.val, 0, 0] : Fin 5 → ℕ) a + S1x1x1x256x128.size a ≤ S3x2x2x256x128.size a) :
    View.readAt (Elt F) (Memref.whole cc0_scratch11).view (Rect.unit (s := S3x2x2x256x128) ![k.val, b.val, h.val, 0, 0] S1x1x1x256x128.size inb).toLoadRect (commC m c)
      = cmV m c k b h := by
  funext i
  exact congrArg (commC m c) (show _ = ix5 k b h (i 3) (i 4) from by
    have h0 : (i 0).val < 1 := (i 0).isLt
    have h1 : (i 1).val < 1 := (i 1).isLt
    have h2 : (i 2).val < 1 := (i 2).isLt
    funext a
    refine Fin.ext ((unit_idx inb i a).trans ?_)
    fin_cases a
    · show k.val + (i 0).val = k.val; omega
    · show b.val + (i 1).val = b.val; omega
    · show h.val + (i 2).val = h.val; omega
    · exact Nat.zero_add _
    · exact Nat.zero_add _)

/-- A context block once its two heads are stored. -/
theorem heads_stored (v : View sig .tc .vmem S256x128 .bf16) (f : v.ty.Contents (Elt F)) (A B : FVec F S256x64 .bf16) :
    v.read (Elt F) (v.writes (Elt F) f [⟨Rect.unit (s := S256x128) ![0, 64] S256x64.size inb_S256x128_S256x64_0_64, B⟩, ⟨Rect.unit (s := S256x128) ![0, 0] S256x64.size inb_S256x128_S256x64_0_0, A⟩])
      = sideBySide A B := by
  funext y
  unfold sideBySide
  split
  · rename_i h
    refine (View.read_writes_cons_miss_of_axis v f _ _ y 1 64 64 rfl rfl rfl (Or.inl h)).trans ?_
    exact View.read_writes_cons_hit_of_coords v f (Rect.unit (s := S256x128) ![0, 0] S256x64.size inb_S256x128_S256x64_0_0) A [] (ix2 (y 0) ⟨(y 1).val, h⟩) y (fun a => by fin_cases a <;> simp [Rect.unit])
  · rename_i h
    have h1 : (y 1).val < 128 := (y 1).isLt
    exact View.read_writes_cons_hit_of_coords v f (Rect.unit (s := S256x128) ![0, 64] S256x64.size inb_S256x128_S256x64_0_64) B _ (ix2 (y 0) ⟨(y 1).val - 64, by omega⟩) y
      (fun a => by fin_cases a <;> simp [Rect.unit]; omega)

/-- A batch stored whole and copied out. -/
theorem stored_copied0 {sp : Space} (M : Memref sig .tc sp S2x256x512 .f32) (f : M.view.ty.Contents (Elt F)) (p : FVec F S1x256x512 .f32) (Lw : List (View.Piece (Elt F) S2x256x512 .f32)) (r : Fin 256) (q : Fin 512) :
    (batch0 M).view.read (Elt F)
      (M.view.writes (Elt F) f (⟨Rect.unit (s := S2x256x512) ![0, 0, 0] S1x256x512.size inb_S2x256x512_S1x256x512_0_0_0, p⟩ :: Lw)) (ix2 r q)
      = p (ix3 0 r q) :=
  (batch0_read M _ r q).trans
    (View.read_writes_cons_hit_of_coords M.view f (Rect.unit (s := S2x256x512) ![0, 0, 0] S1x256x512.size inb_S2x256x512_S1x256x512_0_0_0) p Lw (ix3 0 r q) _ (fun a => by fin_cases a <;> simp [Rect.unit]))
theorem stored_copied1 {sp : Space} (M : Memref sig .tc sp S2x256x512 .f32) (f : M.view.ty.Contents (Elt F)) (p : FVec F S1x256x512 .f32) (Lw : List (View.Piece (Elt F) S2x256x512 .f32)) (r : Fin 256) (q : Fin 512) :
    (batch1 M).view.read (Elt F)
      (M.view.writes (Elt F) f (⟨Rect.unit (s := S2x256x512) ![1, 0, 0] S1x256x512.size inb_S2x256x512_S1x256x512_1_0_0, p⟩ :: Lw)) (ix2 r q)
      = p (ix3 0 r q) :=
  (batch1_read M _ r q).trans
    (View.read_writes_cons_hit_of_coords M.view f (Rect.unit (s := S2x256x512) ![1, 0, 0] S1x256x512.size inb_S2x256x512_S1x256x512_1_0_0) p Lw (ix3 0 r q) _ (fun a => by fin_cases a <;> simp [Rect.unit]))

/-- The result once both accumulator batches are copied out. -/
theorem out_copied (f : Buf (Elt F) ((c : Thread nD τ).loc main_v3)) (p0 p1 : S256x512.Idx → Elt F .f32)
    (h0 : ∀ r q, p0 (ix2 r q) = acc02 m c (ix3 0 r q)) (h1 : ∀ r q, p1 (ix2 r q) = acc12 m c (ix3 0 r q)) :
    (batch1 (Memref.whole main_v3)).view.write (Elt F) ((batch0 (Memref.whole main_v3)).view.write (Elt F) f p0 Finset.univ) p1 Finset.univ = outV m c :=
  funext fun i : S2x256x512.Idx => (batches_read (Memref.whole main_v3) f p0 p1 i).trans
    (congrArg₂ (fun u v => if (i 0).val = 0 then u else v) (h0 (i 1) (i 2)) (h1 (i 1) (i 2)))

/-! ## Where the loads of the output weights start -/

theorem off2_0 : ∀ c : Dev nD, k0_off2 c 0#32 = ![256 * c.val + 128 * (0 : Fin 2).val, 0] := by decide +kernel
theorem off2_1 : ∀ c : Dev nD, k0_off2 c 128#32 = ![256 * c.val + 128 * (1 : Fin 2).val, 0] := by decide +kernel
theorem off3_0 : ∀ c : Dev nD, k0_off3 c 0#32 = ![256 * (origin 0 c).val + 128 * (0 : Fin 2).val, 0] := by decide +kernel
theorem off3_1 : ∀ c : Dev nD, k0_off3 c 128#32 = ![256 * (origin 0 c).val + 128 * (1 : Fin 2).val, 0] := by decide +kernel
theorem off41_0 : ∀ c : Dev nD, k0_off4 c 1#32 0#32 = ![256 * (origin 1 c).val + 128 * (0 : Fin 2).val, 0] := by decide +kernel
theorem off41_1 : ∀ c : Dev nD, k0_off4 c 1#32 128#32 = ![256 * (origin 1 c).val + 128 * (1 : Fin 2).val, 0] := by decide +kernel
theorem off42_0 : ∀ c : Dev nD, k0_off4 c 2#32 0#32 = ![256 * (origin 2 c).val + 128 * (0 : Fin 2).val, 0] := by decide +kernel
theorem off42_1 : ∀ c : Dev nD, k0_off4 c 2#32 128#32 = ![256 * (origin 2 c).val + 128 * (1 : Fin 2).val, 0] := by decide +kernel

/-! ## An accumulator batch read back over the stores -/

section Cover

variable {Val : EltTy → Type} [∀ e, Nonempty (Val e)] {sp : Space} {s : Shape} {e : EltTy}

theorem cov_hit (v : View sig .tc sp s e) (r : Rect s) (w : r.shape.Idx → Val e) (Lw : List (View.Piece Val s e)) :
    v.readCov (⟨r, w⟩ :: Lw) r.toLoadRect = w :=
  funext fun x => View.read_writes_cons_emb v v.junk r w Lw x
theorem cov_miss (v : View sig .tc sp s e) (r r' : Rect s) (w : r.shape.Idx → Val e) (Lw : List (View.Piece Val s e)) (h : ∀ j, r'.toLoadRect.idx j ∉ r.set) :
    v.readCov (⟨r, w⟩ :: Lw) r'.toLoadRect = v.readCov Lw r'.toLoadRect :=
  funext fun j => View.read_writes_cons_miss v v.junk ⟨r, w⟩ Lw _ (h j)

end Cover

/-- The rectangles of the two batches are apart. -/
theorem apart01 (j : (Rect.unit (s := S2x256x512) ![0, 0, 0] S1x256x512.size inb_S2x256x512_S1x256x512_0_0_0).toLoadRect.shape.Idx) :
    (Rect.unit (s := S2x256x512) ![0, 0, 0] S1x256x512.size inb_S2x256x512_S1x256x512_0_0_0).toLoadRect.idx j ∉ (Rect.unit (s := S2x256x512) ![1, 0, 0] S1x256x512.size inb_S2x256x512_S1x256x512_1_0_0).set := by
  intro h
  have h1 : 1 ≤ _ := (Rect.mem_set_unit.mp h 0).1
  have h2 : (j 0).val < 1 := (j 0).isLt
  rw [unit_idx] at h1
  have h3 : 1 ≤ 0 + (j 0).val := h1
  omega
theorem apart10 (j : (Rect.unit (s := S2x256x512) ![1, 0, 0] S1x256x512.size inb_S2x256x512_S1x256x512_1_0_0).toLoadRect.shape.Idx) :
    (Rect.unit (s := S2x256x512) ![1, 0, 0] S1x256x512.size inb_S2x256x512_S1x256x512_1_0_0).toLoadRect.idx j ∉ (Rect.unit (s := S2x256x512) ![0, 0, 0] S1x256x512.size inb_S2x256x512_S1x256x512_0_0_0).set := by
  intro h
  have h1 : _ < 1 := (Rect.mem_set_unit.mp h 0).2
  rw [unit_idx] at h1
  have h3 : 1 + (j 0).val < 1 := h1
  omega

/-- A whole context block as loaded. -/
theorem ctx_load (v : View sig .tc .vmem S256x128 .bf16) (f : v.ty.Contents (Elt F)) :
    v.readAt (Elt F) (Rect.unit (s := S256x128) ![0, 0] S256x128.size inb_S256x128_S256x128_0_0).toLoadRect f = v.read (Elt F) f :=
  funext fun i => congrArg (v.read (Elt F) f) (funext fun a => by fin_cases a <;> exact Fin.ext (by simp [unit_idx]))

/-- Two contents of a whole buffer are the same when they are read the same. -/
theorem of_read {b : Ref sig .tc} {f g : b.ty.Contents (Elt F)} (h : (Memref.whole b).view.read (Elt F) f = g) : f = g := h

/-- The rows of the output weights that a load brings right after the weights were stored. -/
theorem wb_over (v : View sig .tc .vmem S1024x512 .bf16) (f : v.ty.Contents (Elt F)) {p : FVec F S1024x512 .bf16} (hp : p = woS m c)
    (d : Dev nD) (h : Fin 2) (o : Fin 2 → ℕ) (inb : ∀ a, o a + S128x512.size a ≤ S1024x512.size a) (ho : o = ![256 * d.val + 128 * h.val, 0]) :
    v.readAt (Elt F) (Rect.unit (s := S1024x512) o S128x512.size inb).toLoadRect
      (v.writes (Elt F) f [⟨Rect.unit (s := S1024x512) ![0, 0] S1024x512.size inb_S1024x512_S1024x512_0_0, p⟩]) = wb m c d h := by
  subst hp ho
  funext i
  exact (congrFun (wo_stored v f _) _).trans
    (congrArg (woS m c) (funext fun a => by fin_cases a <;> exact Fin.ext (by simp [unit_idx])))

/-- The two batches of the accumulator. -/
abbrev bR0 : Rect S2x256x512 := Rect.unit (s := S2x256x512) ![0, 0, 0] S1x256x512.size inb_S2x256x512_S1x256x512_0_0_0
abbrev bR1 : Rect S2x256x512 := Rect.unit (s := S2x256x512) ![1, 0, 0] S1x256x512.size inb_S2x256x512_S1x256x512_1_0_0

/-! ## The values named, from what their parts are read to be -/

section Named

variable {w : Vec F S512x256 .f32} {x : Vec F S1x256x512 .f32} {k v : Vec F S1x1x64x256 .f32}

theorem hd00_of (hw : w = wqV m c) (hx : x = xV m c 0) (hk : k = kV m c 0 0) (hv : v = vV m c 0 0) : k0_pay4 k0_pay1 (k0_pay2 w) x k v = hd m c 0 0 := by
  subst hw hx hk hv; rfl
theorem hd01_of (hw : w = wqV m c) (hx : x = xV m c 0) (hk : k = kV m c 0 1) (hv : v = vV m c 0 1) : k0_pay6 (k0_pay5 k0_pay1 (k0_pay2 w) x k) v = hd m c 0 1 := by
  subst hw hx hk hv; rfl
theorem hd02_of (hw : w = wqV m c) (hx : x = xV m c 0) (hk : k = kV m c 0 2) (hv : v = vV m c 0 2) :
    k0_pay9 (k0_pay7 k0_pay1 (k0_pay3 (k0_pay2 w) x) k) (k0_pay8 k0_pay1 (k0_pay3 (k0_pay2 w) x) k) v = hd m c 0 2 := by
  subst hw hx hk hv; rfl
theorem hd03_of (hw : w = wqV m c) (hx : x = xV m c 0) (hk : k = kV m c 0 3) (hv : v = vV m c 0 3) : k0_pay10 k0_pay1 (k0_pay3 (k0_pay2 w) x) k v = hd m c 0 3 := by
  subst hw hx hk hv; rfl
theorem hd10_of (hw : w = wqV m c) (hx : x = xV m c 1) (hk : k = kV m c 1 0) (hv : v = vV m c 1 0) : k0_pay12 k0_pay1 (k0_pay2 w) x k v = hd m c 1 0 := by
  subst hw hx hk hv; rfl
theorem hd11_of (hw : w = wqV m c) (hx : x = xV m c 1) (hk : k = kV m c 1 1) (hv : v = vV m c 1 1) : k0_pay13 k0_pay1 (k0_pay11 (k0_pay2 w) x) k v = hd m c 1 1 := by
  subst hw hx hk hv; rfl
theorem hd12_of (hw : w = wqV m c) (hx : x = xV m c 1) (hk : k = kV m c 1 2) (hv : v = vV m c 1 2) : k0_pay15 (k0_pay14 k0_pay1 (k0_pay11 (k0_pay2 w) x) k) v = hd m c 1 2 := by
  subst hw hx hk hv; rfl
theorem hd13_of (hw : w = wqV m c) (hx : x = xV m c 1) (hk : k = kV m c 1 3) (hv : v = vV m c 1 3) : k0_pay17 (k0_pay16 k0_pay1 (k0_pay11 (k0_pay2 w) x) k v) = hd m c 1 3 := by
  subst hw hx hk hv; rfl

variable {a : FVec F S1x256x512 .f32} {y0 y1 : FVec F S256x128 .bf16} {b0 b1 b2 : Vec F S1x1x1x256x128 .bf16} {r0 r1 r2 : Vec F S128x512 .bf16}

theorem acc00_of (h0 : y0 = ctxV m c 0 0) (g0 : r0 = wb m c c 0) (h1 : y1 = ctxV m c 0 1) (g1 : r1 = wb m c c 1) : k0_pay19 y0 r0 y1 r1 = acc00 m c := by
  subst h0 g0 h1 g1; rfl
theorem acc10_of (h0 : y0 = ctxV m c 1 0) (g0 : r0 = wb m c c 0) (h1 : y1 = ctxV m c 1 1) (g1 : r1 = wb m c c 1) : k0_pay20 y0 r0 y1 r1 = acc10 m c := by
  subst h0 g0 h1 g1; rfl
theorem acc01_of (ha : a = acc00 m c) (h0 : b0 = cmV m c 0 0 0) (g0 : r0 = wb m c (origin 0 c) 0) (h1 : b1 = cmV m c 1 0 0) (g1 : r1 = wb m c (origin 1 c) 0)
    (h2 : b2 = cmV m c 2 0 0) (g2 : r2 = wb m c (origin 2 c) 0) : k0_pay23 (k0_pay21 a) (k0_pay22 b0 r0) b1 r1 b2 r2 = acc01 m c := by
  subst ha h0 g0 h1 g1 h2 g2; rfl
theorem acc02_of (ha : a = acc01 m c) (h0 : b0 = cmV m c 0 0 1) (g0 : r0 = wb m c (origin 0 c) 1) (h1 : b1 = cmV m c 1 0 1) (g1 : r1 = wb m c (origin 1 c) 1)
    (h2 : b2 = cmV m c 2 0 1) (g2 : r2 = wb m c (origin 2 c) 1) :
    k0_pay26 (k0_pay24 a) (k0_pay25 b0) r0 (fun _ => FloatOps.ofBits .f32 0#32) b1 r1 b2 r2 = acc02 m c := by
  subst ha h0 g0 h1 g1 h2 g2; rfl
theorem acc11_of (ha : a = acc10 m c) (h0 : b0 = cmV m c 0 1 0) (g0 : r0 = wb m c (origin 0 c) 0) (h1 : b1 = cmV m c 1 1 0) (g1 : r1 = wb m c (origin 1 c) 0)
    (h2 : b2 = cmV m c 2 1 0) (g2 : r2 = wb m c (origin 2 c) 0) : k0_pay28 (k0_pay27 a b0 r0 b1 r1 b2 r2) = acc11 m c := by
  subst ha h0 g0 h1 g1 h2 g2; rfl
theorem acc12_of (ha : a = acc11 m c) (h0 : b0 = cmV m c 0 1 1) (g0 : r0 = wb m c (origin 0 c) 1) (h1 : b1 = cmV m c 1 1 1) (g1 : r1 = wb m c (origin 1 c) 1)
    (h2 : b2 = cmV m c 2 1 1) (g2 : r2 = wb m c (origin 2 c) 1) : k0_pay32 (k0_pay29 a) (k0_pay30 b0 r0 b1 r1) (k0_pay31 b2) r2 = acc12 m c := by
  subst ha h0 g0 h1 g1 h2 g2; rfl

end Named

end Cert.KernelIdeal.Talk

end
-- ==== Proof.KernelIdeal.Setup.lean ====
module

public import proofs.«01_k».proof.Proof.KernelIdeal.Reads
public import proofs.«01_k».proof.Proof.Gen.KernelIdeal.Points
public import proofs.«01_k».proof.Proof.Gen.KernelIdeal.Launch

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F]

local notation "𝕄" => MT nD τ sig Unit (Elt F) ℕ UU ℕ

variable (m : (ℓ : Loc nD τ sig) → Buf (Elt F) ℓ)

/-! ## The buffers as the body is given them -/

/-- A program over the kernel's buffers and semaphore arrays. -/
abbrev OverBufs (β : Type 1) : Type 1 :=
    (arg0 : Memref sig .tc .hbm S2x256x512 .f32) → (harg0 : arg0.IsWhole) →
    (arg1 : Memref sig .tc .hbm S512x1024 .f32) → (harg1 : arg1.IsWhole) →
    (arg2 : Memref sig .tc .hbm S2x4x64x256 .f32) → (harg2 : arg2.IsWhole) →
    (arg3 : Memref sig .tc .hbm S2x4x64x256 .f32) → (harg3 : arg3.IsWhole) →
    (arg4 : Memref sig .tc .hbm S1024x512 .f32) → (harg4 : arg4.IsWhole) →
    (arg5 : Memref sig .tc .hbm S2x256x512 .f32) → (harg5 : arg5.IsWhole) →
    (arg6 : Memref sig .tc .vmem S2x256x512 .f32) → (harg6 : arg6.IsWhole) →
    (arg7 : Memref sig .tc .vmem S512x256 .f32) → (harg7 : arg7.IsWhole) →
    (arg8 : Memref sig .tc .vmem S2x4x64x256 .f32) → (harg8 : arg8.IsWhole) →
    (arg9 : Memref sig .tc .vmem S2x4x64x256 .f32) → (harg9 : arg9.IsWhole) →
    (arg10 : Memref sig .tc .vmem S1024x512 .f32) → (harg10 : arg10.IsWhole) →
    (arg11 : Memref sig .tc .vmem S1024x512 .bf16) → (harg11 : arg11.IsWhole) →
    (arg12 : Memref sig .tc .vmem S256x128 .bf16) → (harg12 : arg12.IsWhole) →
    (arg13 : Memref sig .tc .vmem S256x128 .bf16) → (harg13 : arg13.IsWhole) →
    (arg14 : Memref sig .tc .vmem S256x128 .bf16) → (harg14 : arg14.IsWhole) →
    (arg15 : Memref sig .tc .vmem S256x128 .bf16) → (harg15 : arg15.IsWhole) →
    (arg16 : Memref sig .tc .vmem S2x256x512 .f32) → (harg16 : arg16.IsWhole) →
    (arg17 : Memref sig .tc .vmem S3x2x2x256x128 .bf16) → (harg17 : arg17.IsWhole) →
    (arg18 : DmaSems sig S6) → (arg19 : DmaSems sig S2) →
    (arg20 : DmaSems sig S3x2x2) → (arg21 : DmaSems sig S3x2x2) → β

/-- Such a program at the kernel's own buffers and semaphores. -/
abbrev bufs {β : Type 1} (f : OverBufs β) : β :=
  f (Memref.whole main_arg0) (Memref.isWhole_whole _) (Memref.whole main_arg1) (Memref.isWhole_whole _)
    (Memref.whole main_v1) (Memref.isWhole_whole _) (Memref.whole main_v2) (Memref.isWhole_whole _) (Memref.whole main_arg4) (Memref.isWhole_whole _) (Memref.whole main_v3) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15

/-- A whole buffer's holding, spelled as the program names it. -/
abbrev pt (c : Dev nD) (b : Ref sig .tc) (f : Buf (Elt F) ((Memref.whole b).view.loc (c : Thread nD τ))) : sProp 𝕄 :=
  (Memref.whole b).view.loc (c : Thread nD τ) ↦{fullShare} f

/-! ## The semaphores of the copies in and out -/

abbrev inS0 : DmaSem sig := ((SemArray.slice cc0_scratch12 (Rect.unit ![0] S1.size inb_S6_S1_0)).squeeze S_ squeezes_S1_S_).sem
abbrev inS1 : DmaSem sig := ((SemArray.slice cc0_scratch12 (Rect.unit ![1] S1.size inb_S6_S1_1)).squeeze S_ squeezes_S1_S_).sem
abbrev inS2 : DmaSem sig := ((SemArray.slice cc0_scratch12 (Rect.unit ![2] S1.size inb_S6_S1_2)).squeeze S_ squeezes_S1_S_).sem
abbrev inS3 : DmaSem sig := ((SemArray.slice cc0_scratch12 (Rect.unit ![3] S1.size inb_S6_S1_3)).squeeze S_ squeezes_S1_S_).sem
abbrev inS4 : DmaSem sig := ((SemArray.slice cc0_scratch12 (Rect.unit ![4] S1.size inb_S6_S1_4)).squeeze S_ squeezes_S1_S_).sem
abbrev inS5 : DmaSem sig := ((SemArray.slice cc0_scratch12 (Rect.unit ![5] S1.size inb_S6_S1_5)).squeeze S_ squeezes_S1_S_).sem
abbrev outS0 : DmaSem sig := ((SemArray.slice cc0_scratch13 (Rect.unit ![0] S1.size inb_S2_S1_0)).squeeze S_ squeezes_S1_S_).sem
abbrev outS1 : DmaSem sig := ((SemArray.slice cc0_scratch13 (Rect.unit ![1] S1.size inb_S2_S1_1)).squeeze S_ squeezes_S1_S_).sem

/-! ## Where the signals and the copies go -/

theorem dev1 : ∀ c : Dev nD, (⟨k0_dev1 c, k0_dev1_lt c⟩ : Dev nD) = origin 0 c := by decide +kernel
theorem dev2 : ∀ c : Dev nD, (⟨k0_dev2 c, k0_dev2_lt c⟩ : Dev nD) = origin 1 c := by decide +kernel
theorem dev3 : ∀ c : Dev nD, (⟨k0_dev3 c, k0_dev3_lt c⟩ : Dev nD) = origin 2 c := by decide +kernel
theorem dev4 : ∀ c : Dev nD, (⟨k0_dev4 c, k0_dev4_lt c⟩ : Dev nD) = peer 2 c := by decide +kernel
theorem dev5 : ∀ c : Dev nD, (⟨k0_dev5 c, k0_dev5_lt c⟩ : Dev nD) = peer 0 c := by decide +kernel
theorem dev6 : ∀ c : Dev nD, (⟨k0_dev6 c, k0_dev6_lt c⟩ : Dev nD) = peer 1 c := by decide +kernel
theorem dev7 : ∀ c : Dev nD, (⟨k0_dev7 c, k0_dev7_lt c⟩ : Dev nD) = peer 2 c := by decide +kernel
theorem dev8 : ∀ c : Dev nD, (⟨k0_dev8 c, k0_dev8_lt c⟩ : Dev nD) = peer 0 c := by decide +kernel
theorem dev9 : ∀ c : Dev nD, (⟨k0_dev9 c, k0_dev9_lt c⟩ : Dev nD) = peer 1 c := by decide +kernel
theorem dev10 : ∀ c : Dev nD, (⟨k0_dev10 c, k0_dev10_lt c⟩ : Dev nD) = peer 2 c := by decide +kernel
theorem dev11 : ∀ c : Dev nD, (⟨k0_dev11 c, k0_dev11_lt c⟩ : Dev nD) = peer 0 c := by decide +kernel
theorem dev12 : ∀ c : Dev nD, (⟨k0_dev12 c, k0_dev12_lt c⟩ : Dev nD) = peer 1 c := by decide +kernel
theorem dev13 : ∀ c : Dev nD, (⟨k0_dev13 c, k0_dev13_lt c⟩ : Dev nD) = peer 2 c := by decide +kernel
theorem dev14 : ∀ c : Dev nD, (⟨k0_dev14 c, k0_dev14_lt c⟩ : Dev nD) = peer 0 c := by decide +kernel
theorem dev15 : ∀ c : Dev nD, (⟨k0_dev15 c, k0_dev15_lt c⟩ : Dev nD) = peer 1 c := by decide +kernel

/-- What a device gives away with its signal in direction `k`. -/
def sigs (c : Dev nD) (k : Fin 3) : sProp 𝕄 :=
  iprop(ownBlocks (F := F) c k ∗ dutyTok ER (barCell (origin k c)) 0 k ∗ reached ER (barCell (origin k c)) 0)

/-- The order in which a device waits for the landings. -/
abbrev arrOrder : List Slot := [(0,0,0), (1,0,0), (2,0,0), (0,0,1), (1,0,1), (2,0,1), (0,1,0), (1,1,0), (2,1,0), (0,1,1), (1,1,1), (2,1,1)]

/-! ## Assertions along a list of slots -/

/-- One assertion per listed slot. -/
def listSep (Φ : Slot → sProp 𝕄) : List Slot → sProp 𝕄
  | [] => iprop(emp)
  | i :: l => iprop(Φ i ∗ listSep Φ l)

theorem listSep_eq (Φ : Slot → sProp 𝕄) : ∀ l : List Slot, l.Nodup → listSep Φ l = bigSep l.toFinset Φ
  | [], _ => by rw [List.toFinset_nil, bigSep_empty]; rfl
  | i :: l, h => by
    have h' := List.nodup_cons.mp h
    rw [List.toFinset_cons, bigSep_insert (by rw [List.mem_toFinset]; exact h'.1), ← listSep_eq Φ l h'.2]
    rfl

theorem listSep_order (Φ : Slot → sProp 𝕄) : listSep Φ order = bigSep Finset.univ Φ := by
  rw [listSep_eq Φ order (by decide)]; exact congrArg (fun S => bigSep S Φ) (by decide)
theorem listSep_arrOrder (Φ : Slot → sProp 𝕄) : listSep Φ arrOrder = bigSep Finset.univ Φ := by
  rw [listSep_eq Φ arrOrder (by decide)]; exact congrArg (fun S => bigSep S Φ) (by decide)

/-! ## The landing buffer and its twelve blocks -/

/-- The elements of block `i`. -/
def blk (i : Slot) : Finset S3x2x2x256x128.Idx := (commM i).view.set

theorem mem_blk (i : Slot) (j : S3x2x2x256x128.Idx) : j ∈ blk i ↔ (j 0).val = i.1.val ∧ (j 1).val = i.2.1.val ∧ (j 2).val = i.2.2.val := by
  have e : blk i = (Rect.unit (s := S3x2x2x256x128) ![i.1.val, i.2.1.val, i.2.2.val, 0, 0] S1x1x1x256x128.size (slot_inb i)).set :=
    (View.set_reshape _ _).trans (View.set_slice_whole cc0_scratch11 _)
  rw [e, Rect.mem_set_unit]
  constructor
  · intro h
    have h0 : i.1.val ≤ (j 0).val ∧ (j 0).val < i.1.val + 1 := h 0
    have h1 : i.2.1.val ≤ (j 1).val ∧ (j 1).val < i.2.1.val + 1 := h 1
    have h2 : i.2.2.val ≤ (j 2).val ∧ (j 2).val < i.2.2.val + 1 := h 2
    omega
  · rintro ⟨h0, h1, h2⟩ a
    have h3 : (j 3).val < 256 := (j 3).isLt
    have h4 : (j 4).val < 128 := (j 4).isLt
    fin_cases a
    · show i.1.val ≤ (j 0).val ∧ (j 0).val < i.1.val + 1; omega
    · show i.2.1.val ≤ (j 1).val ∧ (j 1).val < i.2.1.val + 1; omega
    · show i.2.2.val ≤ (j 2).val ∧ (j 2).val < i.2.2.val + 1; omega
    · show 0 ≤ (j 3).val ∧ (j 3).val < 0 + 256; omega
    · show 0 ≤ (j 4).val ∧ (j 4).val < 0 + 128; omega

/-- The landing buffer held whole is its twelve blocks held. -/
theorem blocks_whole (c : Dev nD) (f : Buf (Elt F) ((Memref.whole cc0_scratch11).view.loc (c : Thread nD τ))) :
    (pt c cc0_scratch11 f : sProp 𝕄) = bigSep Finset.univ fun i : Slot => commPts c i f := by
  have hu : (Finset.univ : Finset S3x2x2x256x128.Idx) = Finset.univ.biUnion blk :=
    (Finset.eq_univ_iff_forall.mpr fun j => Finset.mem_biUnion.mpr
      ⟨(⟨(j 0).val, (j 0).isLt⟩, ⟨(j 1).val, (j 1).isLt⟩, ⟨(j 2).val, (j 2).isLt⟩), Finset.mem_univ _, (mem_blk _ j).mpr ⟨rfl, rfl, rfl⟩⟩).symm
  have hd : ∀ i ∈ (Finset.univ : Finset Slot), ∀ i' ∈ (Finset.univ : Finset Slot), i ≠ i' → Disjoint (blk i) (blk i') := fun i _ i' _ hne =>
    Finset.disjoint_left.mpr fun j hj hj' => by
      have h := (mem_blk i j).mp hj
      have h' := (mem_blk i' j).mp hj'
      exact hne (Prod.ext (Fin.ext (by omega)) (Prod.ext (Fin.ext (by omega)) (Fin.ext (by omega))))
  exact (congrArg (fun S => ((c : Thread nD τ).loc cc0_scratch11 ↦[S]{fullShare} f : sProp 𝕄)) hu).trans
    (pointsTo_biUnion (ℓ := (c : Thread nD τ).loc cc0_scratch11) (q := fullShare) (f := f) Finset.univ blk hd)

/-! ## A context block and its four shares -/

theorem ctx_univ (b h : Fin 2) : (ctxM b h).view.set = Finset.univ := by
  fin_cases b <;> fin_cases h <;> exact View.set_whole _

/-- A context block held whole is its four shares held. -/
theorem ctx_shares (c : Dev nD) (b h : Fin 2) :
    ((ctxM b h).view.loc (c : Thread nD τ) ↦{fullShare} ctxC m c b h : sProp 𝕄)
      = iprop((ctxPts m c b h (qs 0) ∗ ctxPts m c b h (qs 1)) ∗ (ctxPts m c b h (qs 2) ∗ ((ctxM b h).view.loc (c : Thread nD τ) ↦{qOwn} ctxC m c b h))) := by
  have sp : ∀ q : PosShare TreeShare, ((ctxM b h).view.loc (c : Thread nD τ) ↦{q} ctxC m c b h : sProp 𝕄)
      = iprop(((ctxM b h).view.loc (c : Thread nD τ) ↦{q.left} ctxC m c b h) ∗ ((ctxM b h).view.loc (c : Thread nD τ) ↦{q.right} ctxC m c b h)) := fun q =>
    BI.Entails.antisymm (pointsTo_share (PosShare.mem_left_op_right q)).1 (pointsTo_share (PosShare.mem_left_op_right q)).2
  unfold ctxPts
  rw [ctx_univ, sp fullShare, sp fullShare.left, sp fullShare.right]
  rfl

/-- A finished context block: three shares for the copies, the fourth for the device itself. -/
theorem share_out (c : Dev nD) (b h : Fin 2) (f : Buf (Elt F) ((ctxM b h).view.loc (c : Thread nD τ))) :
    iprop(((ctxM b h).view.loc (c : Thread nD τ) ↦{fullShare} f) ∗ ⌜f = ctxC m c b h⌝)
      ⊢ (iprop(ctxPts m c b h (qs 2) ∗ ctxPts m c b h (qs 0) ∗ ctxPts m c b h (qs 1) ∗ ((ctxM b h).view.loc (c : Thread nD τ) ↦{qOwn} ctxC m c b h)) : sProp 𝕄) := by
  iintro ⟨H, %e⟩
  subst e
  icases (Entails.of_eq (ctx_shares m c b h)) $$ H with ⟨⟨H0, H1⟩, H2, H3⟩
  isplitl [H2]; · iexact H2
  isplitl [H0]; · iexact H0
  isplitl [H1]; · iexact H1
  iexact H3

/-- The shares back together. -/
theorem share_in (c : Dev nD) (b h : Fin 2) :
    iprop(sendPay m c (0, b, h) ∗ sendPay m c (1, b, h) ∗ sendPay m c (2, b, h) ∗ ((ctxM b h).view.loc (c : Thread nD τ) ↦{qOwn} ctxC m c b h))
      ⊢ (iprop(∃ f, (ctxM b h).view.loc (c : Thread nD τ) ↦{fullShare} f) : sProp 𝕄) := by
  unfold sendPay
  iintro ⟨H0, H1, H2, H3⟩
  iexists ctxC m c b h
  iapply (Entails.of_eq (ctx_shares m c b h).symm)
  isplitl [H0 H1]
  · isplitl [H0]; · iexact H0
    iexact H1
  isplitl [H2]; · iexact H2
  iexact H3

theorem share00 (c : Dev nD) (f : Buf (Elt F) ((Memref.whole cc0_scratch6).view.loc (c : Thread nD τ))) :
    iprop(((Memref.whole cc0_scratch6).view.loc (c : Thread nD τ) ↦{fullShare} f) ∗ ⌜f = ctxV m c 0 0⌝)
      ⊢ (iprop(ctxPts m c 0 0 (qs 2) ∗ ctxPts m c 0 0 (qs 0) ∗ ctxPts m c 0 0 (qs 1) ∗ ((Memref.whole cc0_scratch6).view.loc (c : Thread nD τ) ↦{qOwn} ctxV m c 0 0)) : sProp 𝕄) :=
  share_out m c 0 0 f
theorem share01 (c : Dev nD) (f : Buf (Elt F) ((Memref.whole cc0_scratch7).view.loc (c : Thread nD τ))) :
    iprop(((Memref.whole cc0_scratch7).view.loc (c : Thread nD τ) ↦{fullShare} f) ∗ ⌜f = ctxV m c 0 1⌝)
      ⊢ (iprop(ctxPts m c 0 1 (qs 2) ∗ ctxPts m c 0 1 (qs 0) ∗ ctxPts m c 0 1 (qs 1) ∗ ((Memref.whole cc0_scratch7).view.loc (c : Thread nD τ) ↦{qOwn} ctxV m c 0 1)) : sProp 𝕄) :=
  share_out m c 0 1 f
theorem share10 (c : Dev nD) (f : Buf (Elt F) ((Memref.whole cc0_scratch8).view.loc (c : Thread nD τ))) :
    iprop(((Memref.whole cc0_scratch8).view.loc (c : Thread nD τ) ↦{fullShare} f) ∗ ⌜f = ctxV m c 1 0⌝)
      ⊢ (iprop(ctxPts m c 1 0 (qs 2) ∗ ctxPts m c 1 0 (qs 0) ∗ ctxPts m c 1 0 (qs 1) ∗ ((Memref.whole cc0_scratch8).view.loc (c : Thread nD τ) ↦{qOwn} ctxV m c 1 0)) : sProp 𝕄) :=
  share_out m c 1 0 f
theorem share11 (c : Dev nD) (f : Buf (Elt F) ((Memref.whole cc0_scratch9).view.loc (c : Thread nD τ))) :
    iprop(((Memref.whole cc0_scratch9).view.loc (c : Thread nD τ) ↦{fullShare} f) ∗ ⌜f = ctxV m c 1 1⌝)
      ⊢ (iprop(ctxPts m c 1 1 (qs 2) ∗ ctxPts m c 1 1 (qs 0) ∗ ctxPts m c 1 1 (qs 1) ∗ ((Memref.whole cc0_scratch9).view.loc (c : Thread nD τ) ↦{qOwn} ctxV m c 1 1)) : sProp 𝕄) :=
  share_out m c 1 1 f

/-- Held contents under another name. -/
theorem restate {c : Dev nD} {b : Ref sig .tc} {q : PosShare TreeShare} {f : Buf (Elt F) ((Memref.whole b).view.loc (c : Thread nD τ))}
    (g : Buf (Elt F) ((Memref.whole b).view.loc (c : Thread nD τ))) :
    iprop(((Memref.whole b).view.loc (c : Thread nD τ) ↦{q} f) ∗ ⌜f = g⌝) ⊢ ((Memref.whole b).view.loc (c : Thread nD τ) ↦{q} g : sProp 𝕄) := by
  iintro ⟨H, %e⟩
  subst e
  iexact H

/-- A landed block, spelled as the program names it. -/
theorem landed_at (c : Dev nD) (i : Slot) (o : Fin 5 → ℕ) (inb : ∀ a, o a + S1x1x1x256x128.size a ≤ S3x2x2x256x128.size a) (ho : o = ![i.1.val, i.2.1.val, i.2.2.val, 0, 0]) :
    recvPay m c i ⊢ ((((Memref.whole cc0_scratch11).slice (Rect.unit (s := S3x2x2x256x128) o S1x1x1x256x128.size inb) (fun _ => rfl)).squeeze S256x128 squeezes_S1x1x1x256x128_S256x128).view.loc (c : Thread nD τ)
      ↦[(((Memref.whole cc0_scratch11).slice (Rect.unit (s := S3x2x2x256x128) o S1x1x1x256x128.size inb) (fun _ => rfl)).squeeze S256x128 squeezes_S1x1x1x256x128_S256x128).view.set]{fullShare} commC m c : sProp 𝕄) := by
  subst ho
  exact BI.Entails.refl _

/-- What a device holds when its body returns: its arrays, the result at its value; its scratch buffers at some contents; every
    semaphore back at 0; nothing owed. -/
def bodyPost (c : Dev nD) : sProp 𝕄 :=
  iprop((pt c main_arg0 (V m c main_arg0) ∗ pt c main_arg1 (V m c main_arg1) ∗ pt c main_v1 (V m c main_v1) ∗ pt c main_v2 (V m c main_v2) ∗ pt c main_arg4 (V m c main_arg4) ∗ pt c main_v3 (outV m c))
    ∗ ((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f)
      ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f))
    ∗ (semVal ((c : Thread nD τ), .dma inS0) 0 ∗ semVal ((c : Thread nD τ), .dma inS1) 0 ∗ semVal ((c : Thread nD τ), .dma inS2) 0 ∗ semVal ((c : Thread nD τ), .dma inS3) 0
      ∗ semVal ((c : Thread nD τ), .dma inS4) 0 ∗ semVal ((c : Thread nD τ), .dma inS5) 0 ∗ semVal ((c : Thread nD τ), .dma outS0) 0 ∗ semVal ((c : Thread nD τ), .dma outS1) 0)
    ∗ semVal (barCell c) 0 ∗ listSep (fun i => semVal (sendCell c i) 0) arrOrder ∗ listSep (fun i => semVal (recvCell c i) 0) arrOrder
    ∗ ∃ W, owes (c : Thread nD τ) (0 : CellTallies nD τ sig Unit) W)

end Cert.KernelIdeal.Talk

end
-- ==== Proof.KernelIdeal.Body.lean ====
module

public import proofs.«01_k».proof.Proof.KernelIdeal.Setup
public import proofs.«01_k».proof.Proof.Gen.KernelIdeal.Points
public import proofs.«01_k».proof.Proof.Gen.KernelIdeal.Launch

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F]

local notation "𝕄" => MT nD τ sig Unit (Elt F) ℕ UU ℕ

variable (m : (ℓ : Loc nD τ sig) → Buf (Elt F) ℓ)

set_option sl_exec.dmaWindow true
set_option maxHeartbeats 2000000 in
theorem run_body (K : GSem nD τ sig → ℕ) (c : Dev nD) (W : Waits sig Unit) (Q : PUnit → sProp 𝕄)
    (f0 : Buf (Elt F) ((c : Thread nD τ).loc cc0_scratch0))
    (f1 : Buf (Elt F) ((c : Thread nD τ).loc cc0_scratch1))
    (f2 : Buf (Elt F) ((c : Thread nD τ).loc cc0_scratch2))
    (f3 : Buf (Elt F) ((c : Thread nD τ).loc cc0_scratch3))
    (f4 : Buf (Elt F) ((c : Thread nD τ).loc cc0_scratch4))
    (f5 : Buf (Elt F) ((c : Thread nD τ).loc cc0_scratch5))
    (f6 : Buf (Elt F) ((c : Thread nD τ).loc cc0_scratch6))
    (f7 : Buf (Elt F) ((c : Thread nD τ).loc cc0_scratch7))
    (f8 : Buf (Elt F) ((c : Thread nD τ).loc cc0_scratch8))
    (f9 : Buf (Elt F) ((c : Thread nD τ).loc cc0_scratch9))
    (f10 : Buf (Elt F) ((c : Thread nD τ).loc cc0_scratch10)) :
    iprop((pt c main_arg0 (V m c main_arg0) ∗ pt c main_arg1 (V m c main_arg1) ∗ pt c main_v1 (V m c main_v1) ∗ pt c main_v2 (V m c main_v2) ∗ pt c main_arg4 (V m c main_arg4) ∗ pt c main_v3 (V m c main_v3))
      ∗ (pt c cc0_scratch0 f0 ∗ pt c cc0_scratch1 f1 ∗ pt c cc0_scratch2 f2 ∗ pt c cc0_scratch3 f3 ∗ pt c cc0_scratch4 f4 ∗ pt c cc0_scratch5 f5 ∗ pt c cc0_scratch6 f6 ∗ pt c cc0_scratch7 f7 ∗ pt c cc0_scratch8 f8 ∗ pt c cc0_scratch9 f9 ∗ pt c cc0_scratch10 f10)
      ∗ (semVal ((c : Thread nD τ), .dma inS0) 0 ∗ semVal ((c : Thread nD τ), .dma inS1) 0 ∗ semVal ((c : Thread nD τ), .dma inS2) 0 ∗ semVal ((c : Thread nD τ), .dma inS3) 0 ∗ semVal ((c : Thread nD τ), .dma inS4) 0 ∗ semVal ((c : Thread nD τ), .dma inS5) 0 ∗ semVal ((c : Thread nD τ), .dma outS0) 0 ∗ semVal ((c : Thread nD τ), .dma outS1) 0)
      ∗ (sigs c 0 ∗ sigs c 1 ∗ sigs c 2)
      ∗ levAts L lv ∗ invs m K
      ∗ (cred (tallyAt (barCell c) () 3) ∗ atPos ER (barCell c) 0 ∅ 0) ∗ tokens c order ∗ departs c order ∗ arrives c arrOrder
      ∗ owes (c : Thread nD τ) (debt (dues c)) W ∗ (bodyPost m c -∗ Q ⟨⟩))
      ⊢ wp frame (wpE (defs₀ (F := F)) 𝒱₀ c none) Set.univ (bufs (cc0_body (F := F))) Q := by
  unfold bufs
  rw [cc0_body_eq_skeleton]
  unfold sigs
  iintro ⟨⟨Ha0, Ha1, Hv1, Hv2, Ha4, Hv3⟩, ⟨H0, H1, H2, H3, H4, H5, H6, H7, H8, H9, H10⟩, ⟨S0, S1, S2, S3, S4, S5, So0, So1⟩, ⟨⟨G0, T0, R0⟩, ⟨G1, T1, R1⟩, ⟨G2, T2, R2⟩⟩, #Hlev, #HI, ⟨Hcb, Hpb⟩, Htok, Hdep, Harr, HO, Hk⟩
  have hmw : ∀ (l : List Slot) (sm : SemLoc sig), lv ((c : Thread nD τ), sm) () < 2 → ((levAts L lv : sProp 𝕄) ⊢ MayWait (c : Thread nD τ) sm () (debt (recvDues c l))) := fun l sm h => mayWait_recv c sm l h
  unfold pt inS0 inS1 inS2 inS3 inS4 inS5 outS0 outS1
  sl_exec
  iapply (signal_step m K c _ 0 (dues c).tail W (dev1 c)) $$ [G0 T0 R0 HO]
  · isplitr; · iexact HI
    isplitl [G0]; · iexact G0
    isplitl [T0]; · iexact T0
    isplitl [R0]; · iexact R0
    iexact HO
  iintro HO
  sl_exec
  iapply (signal_step m K c _ 1 (dues c).tail.tail W (dev2 c)) $$ [G1 T1 R1 HO]
  · isplitr; · iexact HI
    isplitl [G1]; · iexact G1
    isplitl [T1]; · iexact T1
    isplitl [R1]; · iexact R1
    iexact HO
  iintro HO
  sl_exec
  iapply (signal_step m K c _ 2 (recvDues c order) W (dev3 c)) $$ [G2 T2 R2 HO]
  · isplitr; · iexact HI
    isplitl [G2]; · iexact G2
    isplitl [T2]; · iexact T2
    isplitl [R2]; · iexact R2
    iexact HO
  iintro HO
  sl_exec
  iapply (barrier_step m K c _ _) $$ [Hcb Hpb HO]
  · isplitr; · iexact HI
    isplitr; · iexact Hlev
    isplitl [Hcb]; · iexact Hcb
    isplitl [Hpb]; · iexact Hpb
    iexact HO
  iintro ⟨Hblk, Zbar, HO⟩
  sl_exec
  icases (share00 m c _) $$ [H6] with ⟨X2, X0, X1, H6⟩
  · isplitl [H6]; · iexact H6
    ipureintro; exact of_read (b := cc0_scratch6) ((heads_stored (Memref.whole cc0_scratch6).view _ _ _).trans (congrArg₂ sideBySide
      (hd00_of m c (wq_read m c f1 _ _ (k0_off1_eq c)) (x_read0 m c f0) (k_read m c f2 0 0 _) (v_read m c f3 0 0 _))
      (hd01_of m c (wq_read m c f1 _ _ (k0_off1_eq c)) (x_read0 m c f0) (k_read m c f2 0 1 _) (v_read m c f3 0 1 _))))
  iapply (send_step m K c _ 2 0 0 [(0, 0, 0), (1, 0, 0), (2, 0, 1), (0, 0, 1), (1, 0, 1), (2, 1, 0), (0, 1, 0), (1, 1, 0), (2, 1, 1), (0, 1, 1), (1, 1, 1)] _ (dev4 c)) $$ [X2 Hblk Htok Hdep HO]
  · isplitr; · iexact HI
    isplitl [X2]; · iexact X2
    isplitl [Hblk]; · iexact Hblk
    isplitl [Htok]; · iexact Htok
    isplitl [Hdep]; · iexact Hdep
    iexact HO
  iintro ⟨D200, Hblk, Htok, Hdep, HO⟩
  sl_exec
  iapply (send_step m K c _ 0 0 0 [(1, 0, 0), (2, 0, 1), (0, 0, 1), (1, 0, 1), (2, 1, 0), (0, 1, 0), (1, 1, 0), (2, 1, 1), (0, 1, 1), (1, 1, 1)] _ (dev5 c)) $$ [X0 Hblk Htok Hdep HO]
  · isplitr; · iexact HI
    isplitl [X0]; · iexact X0
    isplitl [Hblk]; · iexact Hblk
    isplitl [Htok]; · iexact Htok
    isplitl [Hdep]; · iexact Hdep
    iexact HO
  iintro ⟨D000, Hblk, Htok, Hdep, HO⟩
  sl_exec
  iapply (send_step m K c _ 1 0 0 [(2, 0, 1), (0, 0, 1), (1, 0, 1), (2, 1, 0), (0, 1, 0), (1, 1, 0), (2, 1, 1), (0, 1, 1), (1, 1, 1)] _ (dev6 c)) $$ [X1 Hblk Htok Hdep HO]
  · isplitr; · iexact HI
    isplitl [X1]; · iexact X1
    isplitl [Hblk]; · iexact Hblk
    isplitl [Htok]; · iexact Htok
    isplitl [Hdep]; · iexact Hdep
    iexact HO
  iintro ⟨D100, Hblk, Htok, Hdep, HO⟩
  sl_exec
  icases (share01 m c _) $$ [H7] with ⟨X2, X0, X1, H7⟩
  · isplitl [H7]; · iexact H7
    ipureintro; exact of_read (b := cc0_scratch7) ((heads_stored (Memref.whole cc0_scratch7).view _ _ _).trans (congrArg₂ sideBySide
      (hd02_of m c (wq_read m c f1 _ _ (k0_off1_eq c)) (x_read0 m c f0) (k_read m c f2 0 2 _) (v_read m c f3 0 2 _))
      (hd03_of m c (wq_read m c f1 _ _ (k0_off1_eq c)) (x_read0 m c f0) (k_read m c f2 0 3 _) (v_read m c f3 0 3 _))))
  iapply (send_step m K c _ 2 0 1 [(0, 0, 1), (1, 0, 1), (2, 1, 0), (0, 1, 0), (1, 1, 0), (2, 1, 1), (0, 1, 1), (1, 1, 1)] _ (dev7 c)) $$ [X2 Hblk Htok Hdep HO]
  · isplitr; · iexact HI
    isplitl [X2]; · iexact X2
    isplitl [Hblk]; · iexact Hblk
    isplitl [Htok]; · iexact Htok
    isplitl [Hdep]; · iexact Hdep
    iexact HO
  iintro ⟨D201, Hblk, Htok, Hdep, HO⟩
  sl_exec
  iapply (send_step m K c _ 0 0 1 [(1, 0, 1), (2, 1, 0), (0, 1, 0), (1, 1, 0), (2, 1, 1), (0, 1, 1), (1, 1, 1)] _ (dev8 c)) $$ [X0 Hblk Htok Hdep HO]
  · isplitr; · iexact HI
    isplitl [X0]; · iexact X0
    isplitl [Hblk]; · iexact Hblk
    isplitl [Htok]; · iexact Htok
    isplitl [Hdep]; · iexact Hdep
    iexact HO
  iintro ⟨D001, Hblk, Htok, Hdep, HO⟩
  sl_exec
  iapply (send_step m K c _ 1 0 1 [(2, 1, 0), (0, 1, 0), (1, 1, 0), (2, 1, 1), (0, 1, 1), (1, 1, 1)] _ (dev9 c)) $$ [X1 Hblk Htok Hdep HO]
  · isplitr; · iexact HI
    isplitl [X1]; · iexact X1
    isplitl [Hblk]; · iexact Hblk
    isplitl [Htok]; · iexact Htok
    isplitl [Hdep]; · iexact Hdep
    iexact HO
  iintro ⟨D101, Hblk, Htok, Hdep, HO⟩
  sl_exec
  icases (share10 m c _) $$ [H8] with ⟨X2, X0, X1, H8⟩
  · isplitl [H8]; · iexact H8
    ipureintro; exact of_read (b := cc0_scratch8) ((heads_stored (Memref.whole cc0_scratch8).view _ _ _).trans (congrArg₂ sideBySide
      (hd10_of m c (wq_read m c f1 _ _ (k0_off1_eq c)) (x_read1 m c f0) (k_read m c f2 1 0 _) (v_read m c f3 1 0 _))
      (hd11_of m c (wq_read m c f1 _ _ (k0_off1_eq c)) (x_read1 m c f0) (k_read m c f2 1 1 _) (v_read m c f3 1 1 _))))
  iapply (send_step m K c _ 2 1 0 [(0, 1, 0), (1, 1, 0), (2, 1, 1), (0, 1, 1), (1, 1, 1)] _ (dev10 c)) $$ [X2 Hblk Htok Hdep HO]
  · isplitr; · iexact HI
    isplitl [X2]; · iexact X2
    isplitl [Hblk]; · iexact Hblk
    isplitl [Htok]; · iexact Htok
    isplitl [Hdep]; · iexact Hdep
    iexact HO
  iintro ⟨D210, Hblk, Htok, Hdep, HO⟩
  sl_exec
  iapply (send_step m K c _ 0 1 0 [(1, 1, 0), (2, 1, 1), (0, 1, 1), (1, 1, 1)] _ (dev11 c)) $$ [X0 Hblk Htok Hdep HO]
  · isplitr; · iexact HI
    isplitl [X0]; · iexact X0
    isplitl [Hblk]; · iexact Hblk
    isplitl [Htok]; · iexact Htok
    isplitl [Hdep]; · iexact Hdep
    iexact HO
  iintro ⟨D010, Hblk, Htok, Hdep, HO⟩
  sl_exec
  iapply (send_step m K c _ 1 1 0 [(2, 1, 1), (0, 1, 1), (1, 1, 1)] _ (dev12 c)) $$ [X1 Hblk Htok Hdep HO]
  · isplitr; · iexact HI
    isplitl [X1]; · iexact X1
    isplitl [Hblk]; · iexact Hblk
    isplitl [Htok]; · iexact Htok
    isplitl [Hdep]; · iexact Hdep
    iexact HO
  iintro ⟨D110, Hblk, Htok, Hdep, HO⟩
  sl_exec
  icases (share11 m c _) $$ [H9] with ⟨X2, X0, X1, H9⟩
  · isplitl [H9]; · iexact H9
    ipureintro; exact of_read (b := cc0_scratch9) ((heads_stored (Memref.whole cc0_scratch9).view _ _ _).trans (congrArg₂ sideBySide
      (hd12_of m c (wq_read m c f1 _ _ (k0_off1_eq c)) (x_read1 m c f0) (k_read m c f2 1 2 _) (v_read m c f3 1 2 _))
      (hd13_of m c (wq_read m c f1 _ _ (k0_off1_eq c)) (x_read1 m c f0) (k_read m c f2 1 3 _) (v_read m c f3 1 3 _))))
  iapply (send_step m K c _ 2 1 1 [(0, 1, 1), (1, 1, 1)] _ (dev13 c)) $$ [X2 Hblk Htok Hdep HO]
  · isplitr; · iexact HI
    isplitl [X2]; · iexact X2
    isplitl [Hblk]; · iexact Hblk
    isplitl [Htok]; · iexact Htok
    isplitl [Hdep]; · iexact Hdep
    iexact HO
  iintro ⟨D211, Hblk, Htok, Hdep, HO⟩
  sl_exec
  iapply (send_step m K c _ 0 1 1 [(1, 1, 1)] _ (dev14 c)) $$ [X0 Hblk Htok Hdep HO]
  · isplitr; · iexact HI
    isplitl [X0]; · iexact X0
    isplitl [Hblk]; · iexact Hblk
    isplitl [Htok]; · iexact Htok
    isplitl [Hdep]; · iexact Hdep
    iexact HO
  iintro ⟨D011, Hblk, Htok, Hdep, HO⟩
  sl_exec
  iapply (send_step m K c _ 1 1 1 [] _ (dev15 c)) $$ [X1 Hblk Htok Hdep HO]
  · isplitr; · iexact HI
    isplitl [X1]; · iexact X1
    isplitl [Hblk]; · iexact Hblk
    isplitl [Htok]; · iexact Htok
    isplitl [Hdep]; · iexact Hdep
    iexact HO
  iintro ⟨D111, Hblk, Htok, Hdep, HO⟩
  sl_exec
  rw [show debt (recvDues c []) = 0 from rfl]
  icases (restate (b := cc0_scratch5) (woS m c)) $$ [H5] with H5
  · isplitl [H5]; · iexact H5
    ipureintro; exact of_read (b := cc0_scratch5) ((wo_stored (Memref.whole cc0_scratch5).view _ _).trans (congrArg k0_pay18 (wo_read m c f4)))
  iapply (recv_step m K c _ (0, 0, 0) [(1, 0, 0), (2, 0, 0), (0, 0, 1), (1, 0, 1), (2, 0, 1), (0, 1, 0), (1, 1, 0), (2, 1, 0), (0, 1, 1), (1, 1, 1), (2, 1, 1)] _) $$ [Harr HO]
  · isplitr; · iexact HI
    isplitl [Harr]; · iexact Harr
    iexact HO
  iintro ⟨Harr, L000, ZR000, HO⟩
  ihave L000 := (landed_at m c (0, 0, 0) ![0, 0, 0, 0, 0] inb_S3x2x2x256x128_S1x1x1x256x128_0_0_0_0_0 rfl) $$ L000
  sl_exec
  iapply (recv_step m K c _ (1, 0, 0) [(2, 0, 0), (0, 0, 1), (1, 0, 1), (2, 0, 1), (0, 1, 0), (1, 1, 0), (2, 1, 0), (0, 1, 1), (1, 1, 1), (2, 1, 1)] _) $$ [Harr HO]
  · isplitr; · iexact HI
    isplitl [Harr]; · iexact Harr
    iexact HO
  iintro ⟨Harr, L100, ZR100, HO⟩
  ihave L100 := (landed_at m c (1, 0, 0) ![1, 0, 0, 0, 0] inb_S3x2x2x256x128_S1x1x1x256x128_1_0_0_0_0 rfl) $$ L100
  sl_exec
  iapply (recv_step m K c _ (2, 0, 0) [(0, 0, 1), (1, 0, 1), (2, 0, 1), (0, 1, 0), (1, 1, 0), (2, 1, 0), (0, 1, 1), (1, 1, 1), (2, 1, 1)] _) $$ [Harr HO]
  · isplitr; · iexact HI
    isplitl [Harr]; · iexact Harr
    iexact HO
  iintro ⟨Harr, L200, ZR200, HO⟩
  ihave L200 := (landed_at m c (2, 0, 0) ![2, 0, 0, 0, 0] inb_S3x2x2x256x128_S1x1x1x256x128_2_0_0_0_0 rfl) $$ L200
  sl_exec
  iapply (recv_step m K c _ (0, 0, 1) [(1, 0, 1), (2, 0, 1), (0, 1, 0), (1, 1, 0), (2, 1, 0), (0, 1, 1), (1, 1, 1), (2, 1, 1)] _) $$ [Harr HO]
  · isplitr; · iexact HI
    isplitl [Harr]; · iexact Harr
    iexact HO
  iintro ⟨Harr, L001, ZR001, HO⟩
  ihave L001 := (landed_at m c (0, 0, 1) ![0, 0, 1, 0, 0] inb_S3x2x2x256x128_S1x1x1x256x128_0_0_1_0_0 rfl) $$ L001
  sl_exec
  iapply (recv_step m K c _ (1, 0, 1) [(2, 0, 1), (0, 1, 0), (1, 1, 0), (2, 1, 0), (0, 1, 1), (1, 1, 1), (2, 1, 1)] _) $$ [Harr HO]
  · isplitr; · iexact HI
    isplitl [Harr]; · iexact Harr
    iexact HO
  iintro ⟨Harr, L101, ZR101, HO⟩
  ihave L101 := (landed_at m c (1, 0, 1) ![1, 0, 1, 0, 0] inb_S3x2x2x256x128_S1x1x1x256x128_1_0_1_0_0 rfl) $$ L101
  sl_exec
  iapply (recv_step m K c _ (2, 0, 1) [(0, 1, 0), (1, 1, 0), (2, 1, 0), (0, 1, 1), (1, 1, 1), (2, 1, 1)] _) $$ [Harr HO]
  · isplitr; · iexact HI
    isplitl [Harr]; · iexact Harr
    iexact HO
  iintro ⟨Harr, L201, ZR201, HO⟩
  ihave L201 := (landed_at m c (2, 0, 1) ![2, 0, 1, 0, 0] inb_S3x2x2x256x128_S1x1x1x256x128_2_0_1_0_0 rfl) $$ L201
  sl_exec
  iapply (recv_step m K c _ (0, 1, 0) [(1, 1, 0), (2, 1, 0), (0, 1, 1), (1, 1, 1), (2, 1, 1)] _) $$ [Harr HO]
  · isplitr; · iexact HI
    isplitl [Harr]; · iexact Harr
    iexact HO
  iintro ⟨Harr, L010, ZR010, HO⟩
  ihave L010 := (landed_at m c (0, 1, 0) ![0, 1, 0, 0, 0] inb_S3x2x2x256x128_S1x1x1x256x128_0_1_0_0_0 rfl) $$ L010
  sl_exec
  iapply (recv_step m K c _ (1, 1, 0) [(2, 1, 0), (0, 1, 1), (1, 1, 1), (2, 1, 1)] _) $$ [Harr HO]
  · isplitr; · iexact HI
    isplitl [Harr]; · iexact Harr
    iexact HO
  iintro ⟨Harr, L110, ZR110, HO⟩
  ihave L110 := (landed_at m c (1, 1, 0) ![1, 1, 0, 0, 0] inb_S3x2x2x256x128_S1x1x1x256x128_1_1_0_0_0 rfl) $$ L110
  sl_exec
  iapply (recv_step m K c _ (2, 1, 0) [(0, 1, 1), (1, 1, 1), (2, 1, 1)] _) $$ [Harr HO]
  · isplitr; · iexact HI
    isplitl [Harr]; · iexact Harr
    iexact HO
  iintro ⟨Harr, L210, ZR210, HO⟩
  ihave L210 := (landed_at m c (2, 1, 0) ![2, 1, 0, 0, 0] inb_S3x2x2x256x128_S1x1x1x256x128_2_1_0_0_0 rfl) $$ L210
  sl_exec
  iapply (recv_step m K c _ (0, 1, 1) [(1, 1, 1), (2, 1, 1)] _) $$ [Harr HO]
  · isplitr; · iexact HI
    isplitl [Harr]; · iexact Harr
    iexact HO
  iintro ⟨Harr, L011, ZR011, HO⟩
  ihave L011 := (landed_at m c (0, 1, 1) ![0, 1, 1, 0, 0] inb_S3x2x2x256x128_S1x1x1x256x128_0_1_1_0_0 rfl) $$ L011
  sl_exec
  iapply (recv_step m K c _ (1, 1, 1) [(2, 1, 1)] _) $$ [Harr HO]
  · isplitr; · iexact HI
    isplitl [Harr]; · iexact Harr
    iexact HO
  iintro ⟨Harr, L111, ZR111, HO⟩
  ihave L111 := (landed_at m c (1, 1, 1) ![1, 1, 1, 0, 0] inb_S3x2x2x256x128_S1x1x1x256x128_1_1_1_0_0 rfl) $$ L111
  sl_exec
  iapply (recv_step m K c _ (2, 1, 1) [] _) $$ [Harr HO]
  · isplitr; · iexact HI
    isplitl [Harr]; · iexact Harr
    iexact HO
  iintro ⟨Harr, L211, ZR211, HO⟩
  ihave L211 := (landed_at m c (2, 1, 1) ![2, 1, 1, 0, 0] inb_S3x2x2x256x128_S1x1x1x256x128_2_1_1_0_0 rfl) $$ L211
  sl_exec
  iapply (depart_step m K c _ (0, 0, 0) _) $$ [D000 HO]
  · isplitr; · iexact HI
    isplitl [D000]; · iexact D000
    iexact HO
  iintro ⟨E000, ZS000, HO⟩
  sl_exec
  iapply (depart_step m K c _ (1, 0, 0) _) $$ [D100 HO]
  · isplitr; · iexact HI
    isplitl [D100]; · iexact D100
    iexact HO
  iintro ⟨E100, ZS100, HO⟩
  sl_exec
  iapply (depart_step m K c _ (2, 0, 0) _) $$ [D200 HO]
  · isplitr; · iexact HI
    isplitl [D200]; · iexact D200
    iexact HO
  iintro ⟨E200, ZS200, HO⟩
  sl_exec
  iapply (depart_step m K c _ (0, 0, 1) _) $$ [D001 HO]
  · isplitr; · iexact HI
    isplitl [D001]; · iexact D001
    iexact HO
  iintro ⟨E001, ZS001, HO⟩
  sl_exec
  iapply (depart_step m K c _ (1, 0, 1) _) $$ [D101 HO]
  · isplitr; · iexact HI
    isplitl [D101]; · iexact D101
    iexact HO
  iintro ⟨E101, ZS101, HO⟩
  sl_exec
  iapply (depart_step m K c _ (2, 0, 1) _) $$ [D201 HO]
  · isplitr; · iexact HI
    isplitl [D201]; · iexact D201
    iexact HO
  iintro ⟨E201, ZS201, HO⟩
  sl_exec
  iapply (depart_step m K c _ (0, 1, 0) _) $$ [D010 HO]
  · isplitr; · iexact HI
    isplitl [D010]; · iexact D010
    iexact HO
  iintro ⟨E010, ZS010, HO⟩
  sl_exec
  iapply (depart_step m K c _ (1, 1, 0) _) $$ [D110 HO]
  · isplitr; · iexact HI
    isplitl [D110]; · iexact D110
    iexact HO
  iintro ⟨E110, ZS110, HO⟩
  sl_exec
  iapply (depart_step m K c _ (2, 1, 0) _) $$ [D210 HO]
  · isplitr; · iexact HI
    isplitl [D210]; · iexact D210
    iexact HO
  iintro ⟨E210, ZS210, HO⟩
  sl_exec
  iapply (depart_step m K c _ (0, 1, 1) _) $$ [D011 HO]
  · isplitr; · iexact HI
    isplitl [D011]; · iexact D011
    iexact HO
  iintro ⟨E011, ZS011, HO⟩
  sl_exec
  iapply (depart_step m K c _ (1, 1, 1) _) $$ [D111 HO]
  · isplitr; · iexact HI
    isplitl [D111]; · iexact D111
    iexact HO
  iintro ⟨E111, ZS111, HO⟩
  sl_exec
  iapply (depart_step m K c _ (2, 1, 1) _) $$ [D211 HO]
  · isplitr; · iexact HI
    isplitl [D211]; · iexact D211
    iexact HO
  iintro ⟨E211, ZS211, HO⟩
  sl_exec
  icases (restate (b := main_v3) (outV m c)) $$ [Hv3] with Hv3
  · isplitl [Hv3]; · iexact Hv3
    ipureintro
    exact out_copied m c _ _ _ (fun r q => (stored_copied0 (Memref.whole cc0_scratch10) _ _ _ r q).trans (congrFun
        (acc02_of m c ((cov_hit (Memref.whole cc0_scratch10).view bR0 _ _).trans (acc01_of m c ((cov_miss (Memref.whole cc0_scratch10).view bR1 bR0 _ _ apart01).trans ((cov_hit (Memref.whole cc0_scratch10).view bR0 _ _).trans (acc00_of m c (ctx_load (F := F) (Memref.whole cc0_scratch6).view (ctxV m c 0 0)) (wb_over m c (Memref.whole cc0_scratch5).view _ (congrArg k0_pay18 (wo_read m c f4)) c 0 _ _ (off2_0 c)) (ctx_load (F := F) (Memref.whole cc0_scratch7).view (ctxV m c 0 1)) (wb_over m c (Memref.whole cc0_scratch5).view _ (congrArg k0_pay18 (wo_read m c f4)) c 1 _ _ (off2_1 c))))) (cm_read m c 0 0 0 _) (wb_read m c (origin 0 c) 0 _ _ (off3_0 c)) (cm_read m c 1 0 0 _) (wb_read m c (origin 1 c) 0 _ _ (off41_0 c)) (cm_read m c 2 0 0 _) (wb_read m c (origin 2 c) 0 _ _ (off42_0 c)))) (cm_read m c 0 0 1 _) (wb_read m c (origin 0 c) 1 _ _ (off3_1 c)) (cm_read m c 1 0 1 _) (wb_read m c (origin 1 c) 1 _ _ (off41_1 c)) (cm_read m c 2 0 1 _) (wb_read m c (origin 2 c) 1 _ _ (off42_1 c))) _))
      (fun r q => (stored_copied1 (Memref.whole cc0_scratch10) _ _ _ r q).trans (congrFun
        (acc12_of m c ((cov_hit (Memref.whole cc0_scratch10).view bR1 _ _).trans (acc11_of m c ((cov_miss (Memref.whole cc0_scratch10).view bR0 bR1 _ _ apart10).trans ((cov_miss (Memref.whole cc0_scratch10).view bR0 bR1 _ _ apart10).trans ((cov_hit (Memref.whole cc0_scratch10).view bR1 _ _).trans (acc10_of m c (ctx_load (F := F) (Memref.whole cc0_scratch8).view (ctxV m c 1 0)) (wb_over m c (Memref.whole cc0_scratch5).view _ (congrArg k0_pay18 (wo_read m c f4)) c 0 _ _ (off2_0 c)) (ctx_load (F := F) (Memref.whole cc0_scratch9).view (ctxV m c 1 1)) (wb_over m c (Memref.whole cc0_scratch5).view _ (congrArg k0_pay18 (wo_read m c f4)) c 1 _ _ (off2_1 c)))))) (cm_read m c 0 1 0 _) (wb_read m c (origin 0 c) 0 _ _ (off3_0 c)) (cm_read m c 1 1 0 _) (wb_read m c (origin 1 c) 0 _ _ (off41_0 c)) (cm_read m c 2 1 0 _) (wb_read m c (origin 2 c) 0 _ _ (off42_0 c)))) (cm_read m c 0 1 1 _) (wb_read m c (origin 0 c) 1 _ _ (off3_1 c)) (cm_read m c 1 1 1 _) (wb_read m c (origin 1 c) 1 _ _ (off41_1 c)) (cm_read m c 2 1 1 _) (wb_read m c (origin 2 c) 1 _ _ (off42_1 c))) _))
  rw [wp_ret]
  imodintro
  iapply Hk
  unfold bodyPost
  isplitl [Ha0 Ha1 Hv1 Hv2 Ha4 Hv3]
  · isplitl [Ha0]; · iexact Ha0
    isplitl [Ha1]; · iexact Ha1
    isplitl [Hv1]; · iexact Hv1
    isplitl [Hv2]; · iexact Hv2
    isplitl [Ha4]; · iexact Ha4
    iexact Hv3
  isplitl [H0 H1 H2 H3 H4 H5 H6 H7 H8 H9 H10 E000 E100 E200 E001 E101 E201 E010 E110 E210 E011 E111 E211 L000 L100 L200 L001 L101 L201 L010 L110 L210 L011 L111 L211]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6 E000 E100 E200]
    · iapply (share_in m c 0 0)
      isplitl [E000]; · iexact E000
      isplitl [E100]; · iexact E100
      isplitl [E200]; · iexact E200
      iexact H6
    isplitl [H7 E001 E101 E201]
    · iapply (share_in m c 0 1)
      isplitl [E001]; · iexact E001
      isplitl [E101]; · iexact E101
      isplitl [E201]; · iexact E201
      iexact H7
    isplitl [H8 E010 E110 E210]
    · iapply (share_in m c 1 0)
      isplitl [E010]; · iexact E010
      isplitl [E110]; · iexact E110
      isplitl [E210]; · iexact E210
      iexact H8
    isplitl [H9 E011 E111 E211]
    · iapply (share_in m c 1 1)
      isplitl [E011]; · iexact E011
      isplitl [E111]; · iexact E111
      isplitl [E211]; · iexact E211
      iexact H9
    isplitl [H10]; · iexists _; iexact H10
    iexists commC m c
    rw [blocks_whole, ← listSep_arrOrder]
    dsimp only [arrOrder, listSep]
    isplitl [L000]; · iexact L000
    isplitl [L100]; · iexact L100
    isplitl [L200]; · iexact L200
    isplitl [L001]; · iexact L001
    isplitl [L101]; · iexact L101
    isplitl [L201]; · iexact L201
    isplitl [L010]; · iexact L010
    isplitl [L110]; · iexact L110
    isplitl [L210]; · iexact L210
    isplitl [L011]; · iexact L011
    isplitl [L111]; · iexact L111
    isplitl [L211]; · iexact L211
    iempintro
  isplitl [S0 S1 S2 S3 S4 S5 So0 So1]
  · isplitl [S0]; · iexact S0
    isplitl [S1]; · iexact S1
    isplitl [S2]; · iexact S2
    isplitl [S3]; · iexact S3
    isplitl [S4]; · iexact S4
    isplitl [S5]; · iexact S5
    isplitl [So0]; · iexact So0
    iexact So1
  isplitl [Zbar]; · iexact Zbar
  isplitl [ZS000 ZS100 ZS200 ZS001 ZS101 ZS201 ZS010 ZS110 ZS210 ZS011 ZS111 ZS211]
  · dsimp only [arrOrder, listSep]
    isplitl [ZS000]; · iexact ZS000
    isplitl [ZS100]; · iexact ZS100
    isplitl [ZS200]; · iexact ZS200
    isplitl [ZS001]; · iexact ZS001
    isplitl [ZS101]; · iexact ZS101
    isplitl [ZS201]; · iexact ZS201
    isplitl [ZS010]; · iexact ZS010
    isplitl [ZS110]; · iexact ZS110
    isplitl [ZS210]; · iexact ZS210
    isplitl [ZS011]; · iexact ZS011
    isplitl [ZS111]; · iexact ZS111
    isplitl [ZS211]; · iexact ZS211
    iempintro
  isplitl [ZR000 ZR100 ZR200 ZR001 ZR101 ZR201 ZR010 ZR110 ZR210 ZR011 ZR111 ZR211]
  · dsimp only [arrOrder, listSep]
    isplitl [ZR000]; · iexact ZR000
    isplitl [ZR100]; · iexact ZR100
    isplitl [ZR200]; · iexact ZR200
    isplitl [ZR001]; · iexact ZR001
    isplitl [ZR101]; · iexact ZR101
    isplitl [ZR201]; · iexact ZR201
    isplitl [ZR010]; · iexact ZR010
    isplitl [ZR110]; · iexact ZR110
    isplitl [ZR210]; · iexact ZR210
    isplitl [ZR011]; · iexact ZR011
    isplitl [ZR111]; · iexact ZR111
    isplitl [ZR211]; · iexact ZR211
    iempintro
  iexists _; iexact HO

end Cert.KernelIdeal.Talk

end
-- ==== Proof.KernelIdeal.Ghost.lean ====
/-
  What each device is dealt when the kernel is launched: the invariants of the protocol's cells, the tokens of the duties it
  pays, the credit of the waits it makes; and the opening of its send and receive cells when its kernel starts.
-/
module

public import proofs.«01_k».proof.Proof.KernelIdeal.Setup
public import proofs.«01_k».proof.Proof.Gen.KernelIdeal.Points
public import proofs.«01_k».proof.Proof.Gen.KernelIdeal.Launch
public import Idealize.ShloMosaic.Lib.Pipeline.RegionTalk

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

theorem sendS_inj : Function.Injective sendS := by decide
theorem recvS_inj : Function.Injective recvS := by decide

/-- The kernel's thirty-two completion semaphores: eight of copies inside the device, then the send and the receive ones. -/
def osem (k : Fin 32) : SemLoc sig := .dma (show DmaSem sig from k)

/-- The eight counters of the copies inside the device. -/
def localSems (c : Dev nD) : sProp 𝕄 :=
  iprop(semVal ((c : Thread nD τ), .dma inS0) 0 ∗ semVal ((c : Thread nD τ), .dma inS1) 0 ∗ semVal ((c : Thread nD τ), .dma inS2) 0 ∗ semVal ((c : Thread nD τ), .dma inS3) 0
      ∗ semVal ((c : Thread nD τ), .dma inS4) 0 ∗ semVal ((c : Thread nD τ), .dma inS5) 0 ∗ semVal ((c : Thread nD τ), .dma outS0) 0 ∗ semVal ((c : Thread nD τ), .dma outS1) 0)

theorem sems_split : (Finset.univ : Finset (Fin 32))
    = ([0, 1, 2, 3, 4, 5, 6, 7] : List (Fin 32)).toFinset ∪ ((Finset.univ : Finset Slot).image sendS ∪ (Finset.univ : Finset Slot).image recvS) := by decide

theorem ownSems_eq (c : Dev nD) : (Pipeline.ownSems0 osem c : sProp 𝕄)
    = iprop(localSems c ∗ (bigSep Finset.univ fun i : Slot => semVal (sendCell c i) 0) ∗ bigSep Finset.univ fun i : Slot => semVal (recvCell c i) 0) := by
  unfold Pipeline.ownSems0
  rw [sems_split, BI.bigSep_union (by decide), BI.bigSep_union (by decide), BI.bigSep_image_of_injOn sendS_inj.injOn, BI.bigSep_image_of_injOn recvS_inj.injOn,
    BI.bigSep_eq_bigSepL_of_eq [0, 1, 2, 3, 4, 5, 6, 7] rfl (by decide)]
  rfl

/-! ## The cells and the tokens of the launch -/

theorem barCell_inj : Function.Injective (barCell : Dev nD → GSem nD τ sig) := fun _ _ h => congrArg (fun g : GSem nD τ sig => g.1.1) h
theorem sendCell_inj : Function.Injective (fun x : Dev nD × Slot => sendCell x.1 x.2) := fun x y h =>
  Prod.ext (congrArg (fun g : GSem nD τ sig => g.1.1) h) (sendS_inj (SemLoc.dma.inj (congrArg Prod.snd h)))
theorem recvCell_inj : Function.Injective (fun x : Dev nD × Slot => recvCell x.1 x.2) := fun x y h =>
  Prod.ext (congrArg (fun g : GSem nD τ sig => g.1.1) h) (recvS_inj (SemLoc.dma.inj (congrArg Prod.snd h)))
theorem send_ne_recv (c c' : Dev nD) (i j : Slot) : sendCell c i ≠ recvCell c' j := fun h => by
  have h' := congrArg (fun g : GSem nD τ sig => role g.2) h
  dsimp only at h'
  rw [role_send, role_recv] at h'
  exact absurd h' (by simp)
theorem bar_ne_send (c c' : Dev nD) (i : Slot) : barCell c ≠ sendCell c' i := fun h => by cases congrArg Prod.snd h
theorem bar_ne_recv (c c' : Dev nD) (i : Slot) : barCell c ≠ recvCell c' i := fun h => by cases congrArg Prod.snd h

/-- The barrier cells, and the scoped cells. -/
abbrev barCells : Finset (GSem nD τ sig) := Finset.univ.image barCell
abbrev scCells : Finset (GSem nD τ sig) :=
  (Finset.univ : Finset (Dev nD × Slot)).image (fun x => sendCell x.1 x.2) ∪ (Finset.univ : Finset (Dev nD × Slot)).image (fun x => recvCell x.1 x.2)

theorem cells_eq : cells = barCells ∪ scCells := Finset.union_assoc ..

theorem disjoint_send_recv : Disjoint ((Finset.univ : Finset (Dev nD × Slot)).image (fun x => sendCell x.1 x.2)) ((Finset.univ : Finset (Dev nD × Slot)).image (fun x => recvCell x.1 x.2)) :=
  Finset.disjoint_left.mpr fun g h₁ h₂ => by
    obtain ⟨x, -, rfl⟩ := Finset.mem_image.mp h₁
    obtain ⟨y, -, h⟩ := Finset.mem_image.mp h₂
    exact send_ne_recv _ _ _ _ h.symm

theorem disjoint_cells : Disjoint barCells scCells :=
  Finset.disjoint_left.mpr fun g h₁ h₂ => by
    obtain ⟨x, -, rfl⟩ := Finset.mem_image.mp h₁
    rcases Finset.mem_union.mp h₂ with h | h <;> obtain ⟨y, -, h⟩ := Finset.mem_image.mp h
    · exact bar_ne_send _ _ _ h.symm
    · exact bar_ne_recv _ _ _ h.symm

/-- The scoped cells' assertions, dealt to the devices. -/
theorem sc_eq (Φ : GSem nD τ sig → sProp 𝕄) : bigSep scCells Φ
    = bigSep Finset.univ fun c : Dev nD => iprop((bigSep Finset.univ fun i : Slot => Φ (sendCell c i)) ∗ bigSep Finset.univ fun i : Slot => Φ (recvCell c i)) := by
  rw [BI.bigSep_union disjoint_send_recv, BI.bigSep_image_of_injOn sendCell_inj.injOn, BI.bigSep_image_of_injOn recvCell_inj.injOn, BI.bigSep_univ_prod, BI.bigSep_univ_prod]
  exact (BI.bigSep_sep' _ _ _).symm

theorem bar_eq (Φ : GSem nD τ sig → sProp 𝕄) : bigSep barCells Φ = bigSep Finset.univ fun c : Dev nD => Φ (barCell c) :=
  BI.bigSep_image_of_injOn barCell_inj.injOn Φ

abbrev Tok : Type := GSem nD τ sig × ℕ × Fin 3
abbrev barToks : Finset Tok := (Finset.univ : Finset (Dev nD × Fin 3)).image fun x => (barCell x.1, 0, x.2)
abbrev sendToks : Finset Tok := (Finset.univ : Finset (Dev nD × Slot)).image fun x => (sendCell x.1 x.2, 0, 0)
abbrev recvToks : Finset Tok := (Finset.univ : Finset (Dev nD × Slot)).image fun x => (recvCell x.1 x.2, 0, 0)
/-- Every duty's token. -/
abbrev toks : Finset Tok := barToks ∪ (sendToks ∪ recvToks)

theorem toks_disjoint₁ : Disjoint sendToks recvToks :=
  Finset.disjoint_left.mpr fun g h₁ h₂ => by
    obtain ⟨x, -, rfl⟩ := Finset.mem_image.mp h₁
    obtain ⟨y, -, h⟩ := Finset.mem_image.mp h₂
    exact send_ne_recv _ _ _ _ (congrArg Prod.fst h).symm
theorem toks_disjoint₂ : Disjoint barToks (sendToks ∪ recvToks) :=
  Finset.disjoint_left.mpr fun g h₁ h₂ => by
    obtain ⟨x, -, rfl⟩ := Finset.mem_image.mp h₁
    rcases Finset.mem_union.mp h₂ with h | h <;> obtain ⟨y, -, h⟩ := Finset.mem_image.mp h
    · exact bar_ne_send _ _ _ (congrArg Prod.fst h).symm
    · exact bar_ne_recv _ _ _ (congrArg Prod.fst h).symm

theorem barTok_inj : Function.Injective (fun x : Dev nD × Fin 3 => ((barCell x.1, 0, x.2) : Tok)) := fun x y h =>
  Prod.ext (barCell_inj (congrArg Prod.fst h)) (congrArg (fun t : Tok => t.2.2) h)
theorem sendTok_inj : Function.Injective (fun x : Dev nD × Slot => ((sendCell x.1 x.2, 0, 0) : Tok)) := fun x y h => sendCell_inj (congrArg Prod.fst h)
theorem recvTok_inj : Function.Injective (fun x : Dev nD × Slot => ((recvCell x.1 x.2, 0, 0) : Tok)) := fun x y h => recvCell_inj (congrArg Prod.fst h)

/-- A family over devices and directions, each direction's share handed around by a permutation of the devices. -/
theorem deal {I : Type} [Fintype I] (e : I → Dev nD ≃ Dev nD) (Φ : I → Dev nD → sProp 𝕄) :
    (bigSep Finset.univ fun c : Dev nD => bigSep Finset.univ fun k : I => Φ k c) = bigSep Finset.univ fun c : Dev nD => bigSep Finset.univ fun k : I => Φ k (e k c) := by
  rw [← BI.bigSep_univ_prod (fun x : Dev nD × I => Φ x.2 x.1),
    BI.bigSep_univ_equiv (⟨fun x => (e x.2 x.1, x.2), fun x => ((e x.2).symm x.1, x.2), fun x => by simp, fun x => by simp⟩ : Dev nD × I ≃ Dev nD × I)]
  exact BI.bigSep_univ_prod (fun x : Dev nD × I => Φ x.2 (e x.2 x.1))

/-- The tokens, each with the device that pays its duty. -/
theorem toks_dealt : bigSep toks (fun x => (dutyTok ER x.1 x.2.1 x.2.2 : sProp 𝕄))
    = bigSep Finset.univ fun c : Dev nD => iprop((bigSep Finset.univ fun k : Fin 3 => dutyTok ER (barCell (origin k c)) 0 k)
        ∗ (bigSep Finset.univ fun i : Slot => dutyTok ER (sendCell c i) 0 0) ∗ bigSep Finset.univ fun i : Slot => dutyTok ER (recvCell (peer i.1 c) i) 0 0) := by
  rw [BI.bigSep_union toks_disjoint₂, BI.bigSep_union toks_disjoint₁, BI.bigSep_image_of_injOn barTok_inj.injOn, BI.bigSep_image_of_injOn sendTok_inj.injOn,
    BI.bigSep_image_of_injOn recvTok_inj.injOn, BI.bigSep_univ_prod, BI.bigSep_univ_prod, BI.bigSep_univ_prod,
    deal (fun k => (around k).symm) (fun k c => dutyTok ER (barCell c) 0 k), deal (fun i : Slot => around i.1) (fun i c => dutyTok ER (recvCell c i) 0 0)]
  exact ((BI.bigSep_sep' _ _ _).trans (congrArg _ (BI.bigSep_sep' _ _ _))).symm

/-! ## What a device starts with -/

/-- What every device may consult. -/
def records (K : GSem nD τ sig → ℕ) : sProp 𝕄 := iprop(invs m K ∗ bigSep barCells fun g => reached ER g 0)

instance records_persistent (K : GSem nD τ sig → ℕ) : BI.Persistent (records m K) := by unfold records; infer_instance

/-- What a device alone holds. -/
def linear (c : Dev nD) : sProp 𝕄 :=
  iprop(atPos ER (barCell c) 0 ∅ 0 ∗ ((bigSep Finset.univ fun i : Slot => openTok ER (sendCell c i)) ∗ bigSep Finset.univ fun i : Slot => openTok ER (recvCell c i))
    ∗ (bigSep Finset.univ fun k : Fin 3 => dutyTok ER (barCell (origin k c)) 0 k)
        ∗ (bigSep Finset.univ fun i : Slot => dutyTok ER (sendCell c i) 0 0) ∗ bigSep Finset.univ fun i : Slot => dutyTok ER (recvCell (peer i.1 c) i) 0 0)

/-- The credit of a device's waits on the others. -/
def creds (c : Dev nD) : sProp 𝕄 := iprop(cred (tallyAt (barCell c) () 3) ∗ bigSep Finset.univ fun i : Slot => cred (tallyAt (recvCell c i) () N))

def start (c : Dev nD) : sProp 𝕄 := iprop((∃ K, records m K ∗ linear c) ∗ creds c)

/-- The same with the send and the receive cells open. -/
def opened (c : Dev nD) : sProp 𝕄 :=
  iprop((∃ K, records m K ∗ atPos ER (barCell c) 0 ∅ 0 ∗ (bigSep Finset.univ fun i : Slot => iprop(atPos ER (sendCell c i) 0 ∅ 0 ∗ reached ER (sendCell c i) 0))
      ∗ (bigSep Finset.univ fun i : Slot => iprop(atPos ER (recvCell c i) 0 ∅ 0 ∗ reached ER (recvCell c i) 0))
      ∗ (bigSep Finset.univ fun k : Fin 3 => dutyTok ER (barCell (origin k c)) 0 k)
        ∗ (bigSep Finset.univ fun i : Slot => dutyTok ER (sendCell c i) 0 0) ∗ bigSep Finset.univ fun i : Slot => dutyTok ER (recvCell (peer i.1 c) i) 0 0)
    ∗ creds c ∗ localSems c ∗ levAts L lv)

/-- A device's cells over the slots, opened together. -/
theorem open_all (K : GSem nD τ sig → ℕ) (g : Slot → GSem nD τ sig) (hg : ∀ i, g i ∈ cells) :
    iprop(invs m K ∗ (bigSep Finset.univ fun i : Slot => openTok ER (g i)) ∗ bigSep Finset.univ fun i : Slot => semVal (g i) 0)
      ⊢ (|={Set.univ}=> bigSep Finset.univ fun i : Slot => iprop(atPos ER (g i) 0 ∅ 0 ∗ reached ER (g i) 0) : sProp 𝕄) := by
  refine (Entails.of_eq (congrArg (fun X : sProp 𝕄 => iprop(invs m K ∗ X)) (BI.bigSep_sep' Finset.univ (fun i : Slot => openTok ER (g i)) (fun i : Slot => semVal (g i) 0)).symm)).trans ?_
  refine (BI.bigSep_with_persistent (Ψ := fun i : Slot => iprop(|={Set.univ}=> (atPos ER (g i) 0 ∅ 0 ∗ reached ER (g i) 0))) fun i _ => ?_).trans (BI.bigSep_fupd _ _)
  iintro ⟨#HI, Ho, Hs⟩
  ihave #HI1 := (invs_at m K (hg i)) $$ HI
  iapply (Rounds.cell_open ER (sched m) (g := g i) (Set.mem_univ (K (g i))))
  isplitr; · iexact HI1
  isplitl [Ho] <;> iassumption

theorem hopen (c : Dev nD) : iprop(start m c ∗ Pipeline.ownSems0 osem c ∗ levAts L lv) ⊢ (|={Set.univ}=> opened m c : sProp 𝕄) := by
  rw [ownSems_eq]
  unfold start opened linear
  iintro ⟨⟨⟨%K, #HR, Hb, ⟨HoS, HoV⟩, Ht⟩, Hc⟩, ⟨Hl, HsS, HsV⟩, #Hlev⟩
  ihave #HI := (show records m K ⊢ invs m K from by unfold records; iintro ⟨#H, -⟩; iexact H) $$ HR
  imod (open_all m K (fun i => sendCell c i) (fun i => send_mem c i)) $$ [HoS HsS] with HatS
  · isplitr; · iexact HI
    isplitl [HoS] <;> iassumption
  imod (open_all m K (fun i => recvCell c i) (fun i => recv_mem c i)) $$ [HoV HsV] with HatV
  · isplitr; · iexact HI
    isplitl [HoV] <;> iassumption
  imodintro
  isplitl [Hb HatS HatV Ht]
  · iexists K
    isplitr; · iexact HR
    isplitl [Hb]; · iexact Hb
    isplitl [HatS]; · iexact HatS
    isplitl [HatV]; · iexact HatV
    iexact Ht
  isplitl [Hc]; · iexact Hc
  isplitl [Hl]; · iexact Hl
  iexact Hlev

/-! ## The launch credit -/

theorem debt_zero {l : List (GSem nD τ sig × ℕ)} {g : GSem nD τ sig} {u : Unit} (h : ∀ x ∈ l, x.1 ≠ g) : debt l g u = 0 := by
  by_contra hn
  obtain ⟨x, hx, e⟩ := debt_pos (Nat.pos_of_ne_zero hn)
  exact h x hx e

theorem debt_cons (x : GSem nD τ sig × ℕ) (l : List (GSem nD τ sig × ℕ)) (g : GSem nD τ sig) : debt (x :: l) g () = debt l g () + (if g = x.1 then x.2 else 0) := by
  show (debt l + tallyAt x.1 () x.2) g () = _
  rw [Pi.add_apply, Finsupp.add_apply, tallyAt_apply]
  simp only [and_true]

theorem bar_eq_iff (c d : Dev nD) : (barCell c = barCell d) = (c = d) := propext ⟨fun h => barCell_inj h, fun h => congrArg barCell h⟩
theorem recv_eq_iff (c d : Dev nD) (i j : Slot) : (recvCell c i = recvCell d j) = (c = d ∧ i = j) :=
  propext ⟨fun h => Prod.mk.inj (recvCell_inj (a₁ := (c, i)) (a₂ := (d, j)) h), fun h => by rw [h.1, h.2]⟩

theorem owed_bar (d c : Dev nD) : O₀ d (barCell c) () = ((0 + (if c = origin 2 d then 1 else 0)) + (if c = origin 1 d then 1 else 0)) + (if c = origin 0 d then 1 else 0) := by
  unfold O₀ dues
  rw [debt_cons, debt_cons, debt_cons, debt_zero (l := recvDues d order) (fun x hx => by
    obtain ⟨i, -, rfl⟩ := List.mem_map.mp hx; exact (bar_ne_recv _ _ _).symm)]
  simp only [bar_eq_iff]

theorem owed_copies (d c : Dev nD) (i : Slot) : ∀ l : List Slot, debt (recvDues d l) (recvCell c i) () = if d = origin i.1 c then l.count i * N else 0
  | [] => by rw [List.count_nil, Nat.zero_mul, ite_self]; rfl
  | j :: l => by
    show debt ((recvCell (peer j.1 d) j, N) :: recvDues d l) (recvCell c i) () = _
    rw [debt_cons, owed_copies d c i l, List.count_cons]
    simp only [recv_eq_iff]
    by_cases hj : j = i
    · subst hj
      by_cases hd : d = origin j.1 c
      · subst hd; rw [peer_origin]; simp [Nat.add_mul]
      · rw [if_neg hd, if_neg (fun h : c = peer j.1 d ∧ j = j => hd (by rw [h.1, origin_peer])), if_neg hd]
    · rw [if_neg (fun h : c = peer j.1 d ∧ i = j => hj h.2.symm)]; simp [hj]

theorem order_count : ∀ i : Slot, order.count i = 1 := by decide

theorem owed_recv (d c : Dev nD) (i : Slot) : O₀ d (recvCell c i) () = if d = origin i.1 c then N else 0 := by
  unfold O₀ dues
  rw [debt_cons, debt_cons, debt_cons, owed_copies, order_count, Nat.one_mul]
  simp only [(bar_ne_recv _ _ _).symm, if_false, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (i : Slot) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (origin i.1 c) fun _ => N,
    if_pos (Finset.mem_univ _)]

theorem launch_creds (c : Dev nD) : (Pipeline.launchCred O₀ c : sProp 𝕄) ⊢ creds c := by
  unfold Pipeline.launchCred creds
  have hd : Disjoint ({SemLoc.reg barS} : Finset (SemLoc sig)) ((Finset.univ : Finset Slot).image fun i => SemLoc.dma (recvS i)) :=
    Finset.disjoint_left.mpr fun x hx hy => by
      rw [Finset.mem_singleton] at hx; subst hx
      obtain ⟨i, -, h⟩ := Finset.mem_image.mp hy
      cases h
  have hi : Function.Injective (fun i : Slot => (SemLoc.dma (recvS i) : SemLoc sig)) := fun i j h => recvS_inj (SemLoc.dma.inj h)
  refine (BI.bigSep_subset (Finset.subset_univ (({SemLoc.reg barS} : Finset (SemLoc sig)) ∪ (Finset.univ : Finset Slot).image fun i => SemLoc.dma (recvS i)))).trans ?_
  rw [BI.bigSep_union hd, BI.bigSep_singleton, BI.bigSep_image_of_injOn hi.injOn, launch_bar]
  exact Entails.of_eq (congrArg (fun X : sProp 𝕄 => iprop(cred (tallyAt (barCell c) () 3) ∗ X)) (BI.bigSep_congr fun i _ => by rw [launch_recv]))

end Cert.KernelIdeal.Talk

end
-- ==== Proof.KernelIdeal.Launch.lean ====
/-
  The launch: the kernel's region with its invariant before and after its one step, the host operations before it, and the
  run of the whole program from any memory with every semaphore at zero.
-/
module

public import proofs.«01_k».proof.Proof.KernelIdeal.Body
public import proofs.«01_k».proof.Proof.KernelIdeal.Ghost
public import proofs.«01_k».proof.Proof.Gen.KernelIdeal.Points
public import proofs.«01_k».proof.Proof.Gen.KernelIdeal.Launch
public import Idealize.ShloMosaic.Lib.Pipeline.RegionTalk

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The arrays -/

/-- The arrays that outlive the kernel. -/
def arrs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) arrs W := by
  unfold unscopedBufs StableHlo.held arrs StableHlo.tcRefs
  rw [Finset.filter_map, BI.bigSep_map]
  rfl

theorem arrs_eq (c : Dev nD) (W : Valuation τ sig (Elt F)) : (StableHlo.held (c : Thread nD τ) arrs W : sProp 𝕄)
    = iprop(pt c main_arg0 (W main_arg0) ∗ pt c main_arg1 (W main_arg1) ∗ pt c main_arg2 (W main_arg2) ∗ pt c main_arg3 (W main_arg3) ∗ pt c main_arg4 (W main_arg4)
        ∗ pt c main_v1 (W main_v1) ∗ pt c main_v2 (W main_v2) ∗ pt c main_v3 (W main_v3)) := by
  unfold StableHlo.held
  rw [BI.bigSep_eq_bigSepL_of_eq [Proc.devRef .tc main_arg0, Proc.devRef .tc main_arg1, Proc.devRef .tc main_arg2, Proc.devRef .tc main_arg3, Proc.devRef .tc main_arg4,
    Proc.devRef .tc main_v1, Proc.devRef .tc main_v2, Proc.devRef .tc main_v3] (by decide) (by decide)]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The arrays as launched, as the kernel finds them, and as it leaves them. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v3) (outV m c)

theorem V₂_out (c : Dev nD) : V₂ m c main_v3 = outV m c := Function.update_self ..
theorem V₂_ne (c : Dev nD) (b : Ref sig .tc) (h : Proc.devRef (τ := τ) .tc b ≠ Proc.devRef .tc main_v3) : V₂ m c b = V m c b := Function.update_of_ne h ..

theorem held_V₂ (c : Dev nD) : (StableHlo.held (c : Thread nD τ) arrs (V₂ m c) : sProp 𝕄)
    = iprop(pt c main_arg0 (V m c main_arg0) ∗ pt c main_arg1 (V m c main_arg1) ∗ pt c main_arg2 (V m c main_arg2) ∗ pt c main_arg3 (V m c main_arg3) ∗ pt c main_arg4 (V m c main_arg4)
        ∗ pt c main_v1 (V m c main_v1) ∗ pt c main_v2 (V m c main_v2) ∗ pt c main_v3 (outV m c)) := by
  rw [arrs_eq, V₂_out, V₂_ne m c main_arg0 (by decide), V₂_ne m c main_arg1 (by decide), V₂_ne m c main_arg2 (by decide), V₂_ne m c main_arg3 (by decide), V₂_ne m c main_arg4 (by decide),
    V₂_ne m c main_v1 (by decide), V₂_ne m c main_v2 (by decide)]

/-! ## The region's data -/

/-- The kernel's scratch buffers, at contents not chosen. -/
def scratch (c : Dev nD) : sProp 𝕄 :=
  iprop((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f)
      ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f))

abbrev adm : (p : Fin 1) → (pcfgs (F := F) p).Adm := fun p => (cfgs p).toPCfg_adm

theorem scopedRest_scratch (c : Dev nD) :
    (Pipeline.scopedRest (Ix := Unit) (Name := ℕ) (U := UU) (Lvl := ℕ) (Val := Elt F) (Pipeline.pin (pcfgs (F := F)) adm 0).spec c : sProp 𝕄) = scratch c := scopedRest0_eq c

/-- The invariant before the kernel's step, and after it. -/
def before (c : Dev nD) : sProp 𝕄 := iprop(opened m c ∗ StableHlo.held (c : Thread nD τ) arrs (V₁ m c) ∗ scratch c ∗ ∃ r, prngReg c r)
def done (c : Dev nD) : sProp 𝕄 :=
  iprop(StableHlo.held (c : Thread nD τ) arrs (V₂ m c) ∗ scratch c ∗ Pipeline.ownSems0 osem c ∗ semVal (barCell c) 0 ∗ ∃ r, prngReg c r)

def dat (c : Dev nD) : Pipeline.Dat τ (Elt F) Unit ℕ UU ℕ cfg0 c where
  A w := w.elim0
  after w := w.elim0
  Φ t := if t.val = 0 then before m c else done m c
  q w := w.elim0
  owed t := if t.val = 0 then O₀ c else 0

def pdats : (p : Fin 1) → (c : Dev nD) → Pipeline.Dat τ (Elt F) Unit ℕ UU ℕ (Pipeline.pin (pcfgs (F := F)) adm p) c
  | 0 => dat m

theorem no_windows {M : Type} [URA M] (Φ : Fin 0 → sProp M) : bigSep Finset.univ Φ = (BI.emp : sProp M) :=
  BI.bigSep_univ_eq_bigSepL [] (by decide) (by decide) Φ

theorem owed_zero (c : Dev nD) : (pdats (F := F) m 0 c).owed 0 = O₀ c := by
  show (if ((0 : Fin (cfg0.N + 1)).val = 0) then O₀ c else 0) = O₀ c; exact if_pos rfl
theorem owed_first (c : Dev nD) : (dat (F := F) m c).owed (t0_0 : Fin cfg0.N).castSucc = O₀ c := by
  show (if ((t0_0 : Fin cfg0.N).castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owes_in (c : Dev nD) (t : Fin (cfg0.N + 1)) (O : CellTallies nD τ sig Unit) (h0 : (dat (F := F) m c).owed t = O) :
    iprop(∃ W, owes (c : Thread nD τ) O W) ⊢ ((dat (F := F) m c).owesAt () t : sProp 𝕄) := by
  unfold Pipeline.Dat.owesAt Pipeline.owesWithin Pipeline.Dat.bound; rw [h0, show (dat (F := F) m c).recorded t = Set.univ from rfl]
  iintro ⟨%W, HO⟩; iexists W
  isplitr; · ipureintro; exact fun _ _ => Or.inl trivial
  iexact HO
theorem owes_out (c : Dev nD) (t : Fin (cfg0.N + 1)) (O : CellTallies nD τ sig Unit) (h0 : (dat (F := F) m c).owed t = O) :
    ((dat (F := F) m c).owesAt () t : sProp 𝕄) ⊢ iprop(∃ W, owes (c : Thread nD τ) O W) := by
  unfold Pipeline.Dat.owesAt Pipeline.owesWithin; rw [h0]
  iintro ⟨%W, -, HO⟩; iexists W; iexact HO

/-! ## What the device starts with, in the form its kernel takes it -/

theorem tokens_eq (c : Dev nD) : ∀ l : List Slot, (tokens c l : sProp 𝕄)
    = listSep (fun i => iprop(dutyTok ER (recvCell (peer i.1 c) i) 0 0 ∗ dutyTok ER (sendCell c i) 0 0)) l
  | [] => rfl
  | i :: l => by rw [tokens_cons, tokens_eq c l]; rfl
theorem departs_eq (c : Dev nD) : ∀ l : List Slot, (departs c l : sProp 𝕄) = listSep (fun i => iprop(atPos ER (sendCell c i) 0 ∅ 0 ∗ reached ER (sendCell c i) 0)) l
  | [] => rfl
  | i :: l => by rw [departs_cons, departs_eq c l]; rfl
theorem arrives_eq (c : Dev nD) : ∀ l : List Slot, (arrives c l : sProp 𝕄) = listSep (fun i => iprop(atPos ER (recvCell c i) 0 ∅ 0 ∗ cred (tallyAt (recvCell c i) () N))) l
  | [] => rfl
  | i :: l => by rw [arrives_cons, arrives_eq c l]; rfl

theorem tokens_intro (c : Dev nD) :
    iprop((bigSep Finset.univ fun i : Slot => dutyTok ER (sendCell c i) 0 0) ∗ bigSep Finset.univ fun i : Slot => dutyTok ER (recvCell (peer i.1 c) i) 0 0) ⊢ (tokens c order : sProp 𝕄) := by
  rw [tokens_eq, listSep_order, BI.bigSep_sep']
  iintro ⟨H1, H2⟩
  isplitl [H2] <;> iassumption
theorem departs_intro (c : Dev nD) :
    (bigSep Finset.univ fun i : Slot => iprop(atPos ER (sendCell c i) 0 ∅ 0 ∗ reached ER (sendCell c i) 0)) ⊢ (departs c order : sProp 𝕄) :=
  Entails.of_eq (by rw [departs_eq, listSep_order])
theorem arrives_intro (c : Dev nD) :
    iprop((bigSep Finset.univ fun i : Slot => atPos ER (recvCell c i) 0 ∅ 0) ∗ bigSep Finset.univ fun i : Slot => cred (tallyAt (recvCell c i) () N)) ⊢ (arrives c arrOrder : sProp 𝕄) :=
  Entails.of_eq (by rw [arrives_eq, listSep_arrOrder, BI.bigSep_sep'])

/-- The device's own landing buffer, block by block, each ready to be handed over. -/
theorem handed_intro (c : Dev nD) (f : Buf (Elt F) ((Memref.whole cc0_scratch11).view.loc (c : Thread nD τ))) :
    iprop(pt c cc0_scratch11 f ∗ bigSep Finset.univ fun i : Slot => reached ER (recvCell c i) 0) ⊢ (iprop(ownBlocks c 0 ∗ ownBlocks c 1 ∗ ownBlocks c 2) : sProp 𝕄) := by
  rw [blocks_whole, ← BI.bigSep_sep']
  refine (BI.bigSep_mono (Ψ := fun i : Slot => handed c i) fun i _ => (show (iprop(commPts c i f ∗ reached ER (recvCell c i) 0) : sProp 𝕄) ⊢ handed c i from by
    unfold handed; iintro ⟨H, Hr⟩; isplitl [H]; (iexists f; iexact H); iexact Hr)).trans ?_
  rw [show (bigSep Finset.univ fun i : Slot => (handed c i : sProp 𝕄)) = listSep (fun i => handed c i) [(0,0,0), (0,0,1), (0,1,0), (0,1,1), (1,0,0), (1,0,1), (1,1,0), (1,1,1), (2,0,0), (2,0,1), (2,1,0), (2,1,1)] from
    ((listSep_eq _ _ (by decide)).trans (congrArg (fun S => bigSep S _) (by decide))).symm]
  unfold ownBlocks
  simp only [listSep]
  show (_ : sProp 𝕄) ⊢ _
  iintro ⟨H0, H1, H2, H3, H4, H5, H6, H7, H8, H9, H10, H11, -⟩
  isplitl [H0 H1 H2 H3]
  · isplitl [H0]; · iexact H0
    isplitl [H1]; · iexact H1
    isplitl [H2] <;> iassumption
  isplitl [H4 H5 H6 H7]
  · isplitl [H4]; · iexact H4
    isplitl [H5]; · iexact H5
    isplitl [H6] <;> iassumption
  · isplitl [H8]; · iexact H8
    isplitl [H9]; · iexact H9
    isplitl [H10] <;> iassumption

theorem reached_bar (K : GSem nD τ sig → ℕ) (c : Dev nD) : (records m K : sProp 𝕄) ⊢ reached ER (barCell c) 0 := by
  unfold records
  iintro ⟨-, #H⟩
  iapply (show (bigSep barCells fun g => (reached ER g 0 : sProp 𝕄)) ⊢ reached ER (barCell c) 0 from BI.bigSep_elim (Finset.mem_image_of_mem barCell (Finset.mem_univ c))) $$ H

theorem three (Φ : Fin 3 → sProp 𝕄) : bigSep Finset.univ Φ = iprop(Φ 0 ∗ Φ 1 ∗ Φ 2) :=
  BI.bigSep_univ_eq_bigSepL [0, 1, 2] (by decide) (by decide) Φ

/-- The three signals' contents. -/
theorem sigs_intro (K : GSem nD τ sig → ℕ) (c : Dev nD) :
    iprop(records m K ∗ (ownBlocks c 0 ∗ ownBlocks c 1 ∗ ownBlocks c 2) ∗ bigSep Finset.univ fun k : Fin 3 => dutyTok ER (barCell (origin k c)) 0 k)
      ⊢ (iprop(sigs c 0 ∗ sigs c 1 ∗ sigs c 2) : sProp 𝕄) := by
  rw [three]
  unfold sigs
  iintro ⟨#HR, ⟨H0, H1, H2⟩, T0, T1, T2⟩
  ihave #R0 := (reached_bar m K (origin 0 c)) $$ HR
  ihave #R1 := (reached_bar m K (origin 1 c)) $$ HR
  ihave #R2 := (reached_bar m K (origin 2 c)) $$ HR
  isplitl [H0 T0]
  · isplitl [H0]; · iexact H0
    isplitl [T0]; · iexact T0
    iexact R0
  isplitl [H1 T1]
  · isplitl [H1]; · iexact H1
    isplitl [T1]; · iexact T1
    iexact R1
  · isplitl [H2]; · iexact H2
    isplitl [T2]; · iexact T2
    iexact R2

/-! ## The kernel's one step -/

theorem body (c : Dev nD) : Pipeline.BodyObligation (dat (F := F) m c) defs₀ 𝒱₀ () Set.univ := fun t => by
  obtain rfl := fin_N0 t
  rw [no_windows, no_windows]
  rw [show (dat m c).Φ (t0_0 : Fin cfg0.N).castSucc = before m c from rfl, show (dat m c).Φ (t0_0 : Fin cfg0.N).succ = done m c from rfl]
  unfold before opened creds done scratch
  rw [held_V₂, ownSems_eq, arrs_eq, BI.bigSep_sep' Finset.univ (fun i : Slot => (atPos ER (recvCell c i) 0 ∅ 0 : sProp 𝕄)) (fun i : Slot => reached ER (recvCell c i) 0)]
  iintro ⟨⟨⟨⟨%K, #HR, Hb, HS, ⟨HV, HVr⟩, Htb, Hts, Htr⟩, ⟨Hcb, Hcr⟩, Hloc, #Hlev⟩, ⟨Ha0, Ha1, Ha2, Ha3, Ha4, Hv1, Hv2, Hv3⟩,
    ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, %f11, H11⟩, Hreg⟩, HO, -⟩
  ihave HO' := (owes_out m c _ (O₀ c) (owed_first m c)) $$ HO
  icases HO' with ⟨%W, HO⟩
  ihave #HI := (show records m K ⊢ invs m K from by unfold records; iintro ⟨#H, -⟩; iexact H) $$ HR
  ihave Hown := (handed_intro (F := F) c f11) $$ [H11 HVr]
  · isplitl [H11] <;> iassumption
  ihave Hsig := (sigs_intro m K c) $$ [Hown Htb]
  · isplitr; · iexact HR
    isplitl [Hown] <;> iassumption
  iapply (run_body m K c W _ f0 f1 f2 f3 f4 f5 f6 f7 f8 f9 f10)
  isplitl [Ha0 Ha1 Hv1 Hv2 Ha4 Hv3]
  · isplitl [Ha0]; · iexact Ha0
    isplitl [Ha1]; · iexact Ha1
    isplitl [Hv1]; · iexact Hv1
    isplitl [Hv2]; · iexact Hv2
    isplitl [Ha4]; · iexact Ha4
    iexact Hv3
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption
  isplitl [Hloc]; · unfold localSems; iexact Hloc
  isplitl [Hsig]; · iexact Hsig
  isplitr; · iexact Hlev
  isplitr; · iexact HI
  isplitl [Hcb Hb]; · isplitl [Hcb] <;> iassumption
  isplitl [Hts Htr]
  · iapply (tokens_intro c)
    isplitl [Hts] <;> iassumption
  isplitl [HS]; · iapply (departs_intro c) $$ HS
  isplitl [HV Hcr]
  · iapply (arrives_intro c)
    isplitl [HV] <;> iassumption
  isplitl [HO]; · iexact HO
  unfold bodyPost
  rw [listSep_arrOrder, listSep_arrOrder]
  iintro ⟨⟨Ha0, Ha1, Hv1, Hv2, Ha4, Hv3⟩, Hscr, Hloc, Hb, HS, HV, HO⟩
  isplitr [HO]
  · isplitl [Ha0 Ha1 Ha2 Ha3 Ha4 Hv1 Hv2 Hv3]
    · isplitl [Ha0]; · iexact Ha0
      isplitl [Ha1]; · iexact Ha1
      isplitl [Ha2]; · iexact Ha2
      isplitl [Ha3]; · iexact Ha3
      isplitl [Ha4]; · iexact Ha4
      isplitl [Hv1]; · iexact Hv1
      isplitl [Hv2]; · iexact Hv2
      iexact Hv3
    isplitl [Hscr]; · iexact Hscr
    isplitl [Hloc HS HV]
    · isplitl [Hloc]; · unfold localSems; iexact Hloc
      isplitl [HS] <;> iassumption
    isplitl [Hb]; · iexact Hb
    iexact Hreg
  isplitl [HO]; · iapply (owes_in m c _ 0 (owed_last m c)); iexact HO
  iempintro

/-! ## The two segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the arrays up to the kernel. -/
def ride (c : Dev nD) : sProp 𝕄 := iprop((start m c ∗ ∃ r, prngReg c r) ∗ ∃ W, owes (c : Thread nD τ) (O₀ c) W)

theorem hostOps_in : ∀ op ∈ (hostOps0 : List (HloOp τ sig (Elt F))), op.bufs ⊆ arrs := fun op h => by
  rcases List.mem_cons.mp h with rfl | h
  · show ({Proc.devRef .tc main_arg2, Proc.devRef .tc main_v1} : Finset (DevRef τ sig)) ⊆ arrs; decide
  · obtain rfl := List.mem_singleton.mp h
    show ({Proc.devRef .tc main_arg3, Proc.devRef .tc main_v2} : Finset (DevRef τ sig)) ⊆ arrs; decide

def seg0 : ℍ := Pipeline.HostSeg.ofOps _ _ _ _ _ arrs hostOps0 hostOps_in (List.forall_iff_forall_mem.mp hostOps0_fresh) (V₀ m) (ride m)

theorem kit : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨x, hx, rfl⟩ := debt_pos h
    have hx' : (∃ k : Fin 3, x.1 = barCell (origin k c)) ∨ ∃ i : Slot, x.1 = recvCell (peer i.1 c) i := by
      unfold dues at hx
      simp only [List.mem_cons] at hx
      rcases hx with rfl | rfl | rfl | hx
      · exact .inl ⟨0, rfl⟩
      · exact .inl ⟨1, rfl⟩
      · exact .inl ⟨2, rfl⟩
      · obtain ⟨i, -, rfl⟩ := List.mem_map.mp hx; exact .inr ⟨i, rfl⟩
    rcases hx' with ⟨k, e⟩ | ⟨k, e⟩ <;> rw [e]
    · exact ⟨by rw [L_tc]; exact Finset.mem_singleton_self _, Nat.one_pos⟩
    · exact ⟨by rw [L_tc]; exact Finset.mem_singleton_self _, by rw [lv_recv]; decide⟩
  · exact absurd h (Nat.lt_irrefl 0)

theorem hin (c : Dev nD) : iprop(Pipeline.scopedRest (Pipeline.pin (pcfgs (F := F)) adm 0).spec c ∗ (∃ r, prngReg c r) ∗ StableHlo.held (c.tc : Thread nD τ) arrs (V₁ m c) ∗ opened m c)
    ⊢ (pdats m 0 c).Φ 0 := by
  rw [show (pdats m 0 c).Φ 0 = before m c from rfl, scopedRest_scratch]
  unfold before
  iintro ⟨Hs, Hp, Hh, Ho⟩
  isplitl [Ho]; · iexact Ho
  isplitl [Hh]; · iexact Hh
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) arrs (V₂ m c) ∗ Pipeline.ownSems0 osem c ∗ semVal (barCell c) 0) := by
  rw [show (pdats m 0 c).Φ (Fin.last _) = done m c from rfl, scopedRest_scratch]
  unfold done
  iintro ⟨Hh, Hs, Ho, Hb, Hp⟩
  isplitl [Hs]; · iexact Hs
  isplitl [Hp]; · iexact Hp
  isplitl [Hh]; · iexact Hh
  isplitl [Ho] <;> iassumption

set_option backward.isDefEq.respectTransparency.types false in
def reg : ℝ𝕊 0 :=
  Pipeline.RegionSeg.ofTalk (pcfgs (F := F)) adm (pdats m) () defs₀ 𝒱₀ L lv 0 osem (by decide : Pipeline.OwnSemFacts cfg0.spec osem)
    arrs arrs (Finset.Subset.refl _) kit rfl (fun c => (body m c).loose)
    (fun _ => 0) O₀ (fun c => (owed_zero m c).trans (zero_add _).symm) (owed_last m) (fun _ => rfl) (fun _ w => w.elim0)
    (V₁ m) (V₂ m) (fun _ b hb => absurd hb (by rw [Finset.sdiff_self]; exact Finset.notMem_empty b))
    (start m) (fun c => semVal (barCell c) 0) (opened m) (fun c => semVal (barCell c) 0) (hopen m) (hin m) (hout m)
    (fun c => by iintro H; imodintro; iexact H)
    (fun _ => 0)
    ⟨fun _ w => w.elim0, fun _ w => w.elim0, fun c t g i h => cutD m c t g i h⟩
    (fun _ => iprop(emp))
    (fun _ w => w.elim0) (fun _ w => w.elim0)

theorem held_none (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

theorem reg_pre (c : Dev nD) : iprop(StableHlo.held (c : Thread nD τ) arrs (V₁ m c) ∗ ride m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) arrs (V₁ m c) ∗ emp) ∗ start m c ∗ ∃ Wd, owes (c : Thread nD τ) (0 + O₀ c) Wd)
  rw [held_none, zero_add]
  unfold ride
  iintro ⟨Hh, ⟨Hst, Hp⟩, HO⟩
  isplitr; · iempintro
  isplitl [Hp]; · iexact Hp
  isplitl [Hh]
  · isplitl [Hh]; · iexact Hh
    iempintro
  isplitl [Hst]; · iexact Hst
  iexact HO

/-- What a device ends with. -/
abbrev Tₙ (c : Dev nD) : sProp 𝕄 := iprop(StableHlo.held (c : Thread nD τ) arrs (V₂ m c) ∗ semVal (barCell c) 0)

theorem reg_post (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) arrs (V₂ m c) ∗ emp) ∗ semVal (barCell c) 0 ∗ ∃ Wd, owes (c : Thread nD τ) (0 : CellTallies nD τ sig Unit) Wd) ⊢ _
  rw [held_none]
  iintro ⟨-, -, ⟨Hh, -⟩, Hb, HO⟩
  isplitr [HO]
  · isplitl [Hh] <;> iassumption
  iexact HO

def segs : List (Pipeline.Seg (pcfgs (F := F)) adm (pdats m) () defs₀ 𝒱₀ L lv) := [.host (seg0 m), .region (reg m)]

/-! ## The launch itself -/

def u₀ : UU :=
  (initOf (Pipeline.cells (Pipeline.pin (pcfgs (F := F)) adm) cellOf_inj) (Pipeline.launchToks (Pipeline.pin (pcfgs (F := F)) adm) cellOf_inj),
    (launchOf barCells scCells toks, 1))

/-- The protocol's launch element, kept by device 0 until it is dealt. -/
def parked (c : Dev nD) : sProp 𝕄 := if c = 0 then BI.own (ER (launchOf barCells scCells toks)) else iprop(emp)
theorem parked_all : bigSep Finset.univ (parked (F := F)) = BI.own (ER (launchOf barCells scCells toks)) := by
  rw [BI.bigSep_univ_at _ (0 : Dev nD), BI.bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

theorem launch_own : (ownU (u₀ (F := F)) : sProp 𝕄) ⊢ iprop(BI.own (EP (u₀ (F := F)).1) ∗ BI.own (ER (launchOf barCells scCells toks))) := by
  iintro Hu
  ihave H := (ownU_pair _ _) $$ Hu
  icases H with ⟨HP, HX⟩
  isplitl [HP]; · iexact HP
  ihave H := (own_pair_emb embR _ _) $$ HX
  icases H with ⟨H, -⟩
  iexact H

abbrev T₀ (c : Dev nD) : sProp 𝕄 := iprop(StableHlo.held (c : Thread nD τ) arrs (V₀ m c) ∗ ride m c)

/-- What of a device's launch holdings is not the protocol's. -/
def plain (c : Dev nD) : sProp 𝕄 := iprop(StableHlo.held (c : Thread nD τ) arrs (V₀ m c) ∗ creds c ∗ owes (c : Thread nD τ) (O₀ c) ∅ ∗ ∃ r, prngReg c r)

theorem T₀_intro (K : GSem nD τ sig → ℕ) (c : Dev nD) : iprop(records m K ∗ (linear c ∗ plain m c)) ⊢ T₀ m c := by
  unfold plain T₀ ride start
  iintro ⟨#HR, Hl, Hh, Hc, HO, Hp⟩
  isplitl [Hh]; · iexact Hh
  isplitr [HO]
  · isplitr [Hp]
    · isplitl [Hl]
      · iexists K
        isplitr; · iexact HR
        iexact Hl
      iexact Hc
    iexact Hp
  · iexists ∅; iexact HO

theorem pair {Φ Ψ : Dev nD → sProp 𝕄} : iprop(bigSep Finset.univ Φ ∗ bigSep Finset.univ Ψ) ⊢ bigSep Finset.univ (fun c => iprop(Φ c ∗ Ψ c)) :=
  Entails.of_eq (BI.bigSep_sep' _ _ _).symm
theorem unpair {Φ Ψ : Dev nD → sProp 𝕄} : bigSep Finset.univ (fun c => iprop(Φ c ∗ Ψ c)) ⊢ iprop(bigSep Finset.univ Φ ∗ bigSep Finset.univ Ψ) :=
  Entails.of_eq (BI.bigSep_sep' _ _ _)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(plain m c ∗ (semVal (barCell c) 0 ∗ parked c)) : sProp 𝕄) := by
    rw [show unscopedBufs c (fun b => m ((c : Thread nD τ).loc b)) = StableHlo.held (c : Thread nD τ) arrs (V₀ m c) from unscopedBufs_held c (V₀ m c),
      unscopedSems0_eq]
    unfold plain
    iintro ⟨Hh, Hus, HO, Hcr, Hp, HG⟩
    ihave Hc := (launch_creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(plain m c ∗ (semVal (barCell c) 0 ∗ parked c)) : sProp 𝕄) from BI.bigSep_mono fun c _ => hcore c) $$ H
  ihave H2 := unpair $$ H'; icases H2 with ⟨HB, H3⟩
  ihave H4 := unpair $$ H3; icases H4 with ⟨Hv, HG⟩
  ihave Hu := (Entails.of_eq (parked_all (F := F))) $$ HG
  imod (Rounds.fund_launch ER (sched m) disjoint_cells (fun g _ h => h) toks) $$ [Hv Hu] with ⟨%κ, -, #Hinv, #Hr, Hat, Hopen, Htok⟩
  · isplitl [Hv]
    · iapply (Entails.of_eq (bar_eq (F := F) (fun g => semVal g 0)).symm) $$ Hv
    · iexact Hu
  imodintro
  iapply (BI.bigSep_with_persistent (R := records m κ) (Φ := fun c => iprop(linear c ∗ plain m c)) fun c _ => T₀_intro m κ c)
  isplitr
  · unfold records
    isplitr; · unfold invs; rw [cells_eq]; iexact Hinv
    iexact Hr
  iapply pair
  isplitr [HB]
  · unfold linear
    iapply pair; isplitl [Hat]; · iapply (Entails.of_eq (bar_eq (F := F) (fun g => atPos ER g 0 ∅ 0))) $$ Hat
    iapply pair; isplitl [Hopen]; · iapply (Entails.of_eq (sc_eq (F := F) (fun g => openTok ER g))) $$ Hopen
    iapply (Entails.of_eq (toks_dealt (F := F))) $$ Htok
  · iexact HB

theorem unscoped_eq : ∀ sm : SemLoc sig, sm.isScoped .tc = false → sm = .reg barS := by decide

set_option backward.isDefEq.respectTransparency.types false in
/-- From any memory with every semaphore at zero the program ends; the arguments are unchanged, the result holds `outV`, every
    semaphore is at zero. -/
theorem run_main : θ_run defs (onTc (τ := τ) (main (F := F))) (s₀ m ρ)
    (fun r => (∀ c : Dev nD, r.2.mem ((c : Thread nD τ).loc main_v3) = outV m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg m) rfl c]; rfl)
    (by simp only [segs, Pipeline.Seg.pipes_host, Pipeline.Seg.pipes_region, Pipeline.Seg.pipes_nil]; decide)
    (O₀ := O₀) (hL := L_of_ne) (G := parked) (u₀ := u₀)
    (hu₀ := by
      iintro Hu
      ihave H := (launch_own (F := F)) $$ Hu
      icases H with ⟨HP, HX⟩
      imodintro
      isplitl [HP]; · iexact HP
      rw [parked_all]; iexact HX)
    (T₀ := T₀ m) (Tₙ := Tₙ m)
    (hch := ⟨fun c => .rfl, fun c => reg_pre m c, fun c => reg_post m c⟩)
    (hinit := init m ρ)
    (QY := fun c s => (s.mem ((Memref.whole main_v3).view.loc (c : Thread nD τ)) = outV m c
        ∧ s.mem ((Memref.whole main_arg0).view.loc (c : Thread nD τ)) = V m c main_arg0
        ∧ s.mem ((Memref.whole main_arg1).view.loc (c : Thread nD τ)) = V m c main_arg1
        ∧ s.mem ((Memref.whole main_arg2).view.loc (c : Thread nD τ)) = V m c main_arg2
        ∧ s.mem ((Memref.whole main_arg3).view.loc (c : Thread nD τ)) = V m c main_arg3
        ∧ s.mem ((Memref.whole main_arg4).view.loc (c : Thread nD τ)) = V m c main_arg4)
      ∧ s.sem (barCell c) = 0)
    (hfin := fun c s' => by
      dsimp only [Tₙ]; rw [held_V₂]
      iintro ⟨⟨⟨Ha0, Ha1, Ha2, Ha3, Ha4, -, -, Hv3⟩, Hb0⟩, HSI⟩
      icombine HSI Ha0 gives %h0
      icombine HSI Ha1 gives %h1
      icombine HSI Ha2 gives %h2
      icombine HSI Ha3 gives %h3
      icombine HSI Ha4 gives %h4
      icombine HSI Hv3 gives %hv
      icombine HSI Hb0 gives %hb
      imodintro
      isplitr
      · ipureintro
        exact ⟨⟨Buf.eq_of_forall_mem_univ hv, Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => by
        obtain ⟨⟨hv, h0, h1, h2, h3, h4⟩, -⟩ := h c
        exact ⟨hv, h0.trans (V_main_arg0 m c), h1.trans (V_main_arg1 m c), h2.trans (V_main_arg2 m c), h3.trans (V_main_arg3 m c), h4.trans (V_main_arg4 m c)⟩,
      sem_eq_zero hs fun c sm hsm => by
        obtain rfl := unscoped_eq sm hsm
        exact (h c).2⟩)

end Cert.KernelIdeal.Talk

end
-- ==== Proof.Value.Maths.lean ====
/-
  The mathematics between the two programs' attention, over extended reals and with no program in it.

  The kernel scales the query weights by 1/8, exponentiates the masked scores as they are, multiplies by the values, and
  multiplies the sum by the reciprocal of the row's total. The reference scales the scores by 1/8, subtracts the row's
  largest score, exponentiates, divides by the row's total, and multiplies by the values. Where the scores are real numbers
  the two agree, whatever the values are: the weights are then positive reals, and a positive real distributes over any sum
  of extended reals.
-/
module

public import Idealize.ShloMosaic.Lib.Pointwise

@[expose] public section

noncomputable section

namespace Cert.Value

open Idealize.ShloMosaic

/-- An extended real that is a real number. -/
def IsReal (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real that is not negative distributes over any sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The largest of finitely many reals, at least one, is a real. -/
theorem fold_max_real {ι : Type} (s : Finset ι) (hs : s.Nonempty) (f : ι → EReal) (hf : ∀ i, IsReal (f i)) :
    IsReal (Finset.fold max (⊥ : EReal) f s) := by
  classical
  induction hs using Finset.Nonempty.cons_induction with
  | singleton a => rw [Finset.fold_singleton, max_eq_left bot_le]; exact hf a
  | cons a s ha hs ih =>
    rw [Finset.fold_cons]
    rcases max_choice (f a) (Finset.fold max ⊥ f s) with h | h <;> rw [h]
    · exact hf a
    · exact ih

/-- Exponentiating, multiplying by the values and then dividing by the total is what subtracting any real from every score,
    normalising and then multiplying gives. -/
theorem normalise {n : Nat} [NeZero n] (s : Fin n → ℝ) (v : Fin n → EReal) (M : ℝ) :
    (∑ k, Ideal.exp (s k : EReal) * v k) * Ideal.div 1 (∑ k, Ideal.exp (s k : EReal))
      = ∑ k, v k * Ideal.div (Ideal.exp ((s k : EReal) - (M : EReal))) (∑ l, Ideal.exp ((s l : EReal) - (M : EReal))) := by
  have pos : ∀ f : Fin n → ℝ, 0 < ∑ k, Real.exp (f k) := fun f =>
    Finset.sum_pos (fun k _ => Real.exp_pos _) Finset.univ_nonempty
  simp only [← EReal.coe_sub, Ideal.exp_coe, ← coe_sum]
  rw [Ideal.div_coe (pos s).ne', one_mul, sum_mul_coe _ _ (one_div_nonneg.mpr (pos s).le)]
  refine Finset.sum_congr rfl fun k _ => ?_
  rw [Ideal.div_coe (pos _).ne', mul_comm (Real.exp (s k) : EReal), mul_assoc, ← EReal.coe_mul, ← EReal.coe_mul]
  have h : Real.exp (s k) * (1 / ∑ l, Real.exp (s l)) = Real.exp (s k - M) * (1 / ∑ l, Real.exp (s l - M)) := by
    have e : ∑ l, Real.exp (s l - M) = (∑ l, Real.exp (s l)) / Real.exp M := by
      rw [Finset.sum_div]; exact Finset.sum_congr rfl fun l _ => Real.exp_sub _ _
    rw [e, Real.exp_sub]
    have h1 := (pos s).ne'
    have h2 := (Real.exp_pos M).ne'
    field_simp
  rw [h]

/-! ## The literals -/

/-- The scale. -/
abbrev eighth : EReal := Ideal.ofBits .f32 0x3E000000#32

/-- What a masked score is replaced by. -/
abbrev low : EReal := Ideal.ofBits .f32 0xCE6E6B28#32

theorem eighth_eq : eighth = ((1 / 8 : ℝ) : EReal) := by
  simp [eighth, Ideal.ofBits, Ideal.ieee, -EReal.coe_mul]; norm_num

theorem low_real : IsReal low := by
  refine ⟨-1000000000, ?_⟩
  simp [low, Ideal.ofBits, Ideal.ieee, -EReal.coe_mul, -EReal.coe_neg]; norm_num

theorem negInf_eq : Ideal.ofBits .f32 0xFF800000#32 = ⊥ := by simp [Ideal.ofBits, Ideal.ieee]

theorem inf_eq : Ideal.ofBits .f32 0x7F800000#32 = ⊤ := by simp [Ideal.ofBits, Ideal.ieee]

/-- A number whose absolute value is below infinity is real. -/
theorem isReal_of_abs_lt {x : EReal} (h : max x (-x) < ⊤) : IsReal x := by
  induction x with
  | bot => simp at h
  | top => simp at h
  | coe r => exact ⟨r, rfl⟩

/-! ## Masked scores -/

/-- A masked score, the weights scaled first. -/
def scoreK (msk : BitVec 1) (x : Fin 512 → EReal) (w : Fin 64 → Fin 512 → EReal) (k : Fin 64 → EReal) : EReal :=
  Scalar.select msk (∑ t, (∑ e, x e * (w t e * eighth)) * k t) low

/-- A masked score, scaled last. -/
def scoreR (msk : BitVec 1) (x : Fin 512 → EReal) (w : Fin 64 → Fin 512 → EReal) (k : Fin 64 → EReal) : EReal :=
  Scalar.select msk ((∑ t, (∑ e, x e * w t e) * k t) * eighth) low

/-- Where the activations, the weights and the keys are real, the two scores are one real number. -/
theorem score_real (msk : BitVec 1) (x : Fin 512 → EReal) (w : Fin 64 → Fin 512 → EReal) (k : Fin 64 → EReal)
    (hx : ∀ e, IsReal (x e)) (hw : ∀ t e, IsReal (w t e)) (hk : ∀ t, IsReal (k t)) :
    ∃ r : ℝ, scoreK msk x w k = (r : EReal) ∧ scoreR msk x w k = (r : EReal) := by
  choose x' hx using hx
  choose w' hw using hw
  choose k' hk using hk
  obtain ⟨l, hl⟩ := low_real
  by_cases h : msk = 1
  · refine ⟨(∑ t, (∑ e, x' e * w' t e) * k' t) * (1 / 8), ?_, ?_⟩
    · unfold scoreK Scalar.select
      rw [if_pos h]
      simp only [hx, hw, hk, eighth_eq, ← EReal.coe_mul, ← coe_sum]
      rw [Finset.sum_mul]
      refine congrArg _ (Finset.sum_congr rfl fun t _ => ?_)
      rw [mul_right_comm, Finset.sum_mul _ _ (1 / 8 : ℝ)]
      exact congrArg (· * k' t) (Finset.sum_congr rfl fun e _ => (mul_assoc _ _ _).symm)
    · unfold scoreR Scalar.select
      rw [if_pos h]
      simp only [hx, hw, hk, eighth_eq, ← EReal.coe_mul, ← coe_sum]
  · exact ⟨l, (if_neg h).trans hl, (if_neg h).trans hl⟩

/-- One element of a head's context: the kernel's form and the reference's agree. -/
theorem attend (msk : Fin 256 → BitVec 1) (x : Fin 512 → EReal) (w : Fin 64 → Fin 512 → EReal) (k : Fin 256 → Fin 64 → EReal)
    (v : Fin 256 → EReal) (hx : ∀ e, IsReal (x e)) (hw : ∀ t e, IsReal (w t e)) (hk : ∀ j t, IsReal (k j t)) :
    (∑ j, Ideal.exp (scoreK (msk j) x w (k j)) * v j) * Ideal.div 1 (∑ j, Ideal.exp (scoreK (msk j) x w (k j)))
      = ∑ j, v j * Ideal.div
          (Ideal.exp (scoreR (msk j) x w (k j)
            - Finset.fold max (Ideal.ofBits .f32 0xFF800000#32) (fun l => scoreR (msk l) x w (k l)) Finset.univ))
          (∑ l, Ideal.exp (scoreR (msk l) x w (k l)
            - Finset.fold max (Ideal.ofBits .f32 0xFF800000#32) (fun l => scoreR (msk l) x w (k l)) Finset.univ)) := by
  choose s hK hR using fun j => score_real (msk j) x w (k j) hx hw (hk j)
  obtain ⟨M, hM⟩ := fold_max_real Finset.univ Finset.univ_nonempty (fun l => scoreR (msk l) x w (k l)) fun l => ⟨s l, hR l⟩
  rw [negInf_eq, hM]
  simp only [hK, hR]
  exact normalise s v M

/-! ## The mask -/

/-- Query row `i` sees key `j`: a window of 128 either side, the first 32 keys, and every key for the first 32 rows. -/
def seen (i j : Fin 256) : BitVec 1 :=
  IntOp.ori
    (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32))

theorem ori_assoc (a b c : BitVec 1) : IntOp.ori (IntOp.ori a b) c = IntOp.ori a (IntOp.ori b c) := BitVec.or_assoc a b c

theorem ori_one (a b : BitVec 1) : IntOp.ori a (IntOp.ori 1#1 b) = 1#1 := by revert a b; decide

/-- Every row sees key 0. -/
theorem seen_zero (i : Fin 256) : seen i 0 = 1#1 := ori_one _ _

/-- So every row is kept. -/
theorem kept (i : Fin 256) : Finset.fold IntOp.ori 0#1 (seen i) Finset.univ = 1#1 := by
  rw [← Finset.insert_erase (Finset.mem_univ (0 : Fin 256)), Finset.fold_insert (Finset.notMem_erase _ _), seen_zero]
  generalize Finset.fold IntOp.ori 0#1 (seen i) _ = r
  revert r; decide

end Cert.Value

end
-- ==== Proof.Value.Reference.lean ====
/-
  The reference, element by element: an entry of its result is the sum over the 1024 columns of the contexts, 64 for each of
  the 16 heads, of the context times the output weight.
-/
module

public import proofs.«01_k».proof.Proof.Gen.ReferenceIdeal.Run
public import proofs.«01_k».proof.Proof.Value.Maths

@[expose] public section

set_option maxRecDepth 16384

noncomputable section

namespace Cert.Value

open Cert.ReferenceIdeal Cert.ReferenceIdeal.Gen Idealize.ShloMosaic

/-- A row of a batch's activations. -/
def xRow (A0 : FVec Ideal S2x256x512 .f32) (b : Fin 2) (i : Fin 256) (e : Fin 512) : EReal := A0 (ix3 b i e)

/-- The 64 columns of the query weights that belong to a head. -/
def wCols (A1 : FVec Ideal S512x1024 .f32) (h : Fin 16) (t : Fin 64) (e : Fin 512) : EReal :=
  A1 (ix2 e ⟨h.val * 64 + t.val, by omega⟩)

/-- A head's key. -/
def kRow (A2 : FVec Ideal S2x256x16x64 .f32) (b : Fin 2) (h : Fin 16) (j : Fin 256) (t : Fin 64) : EReal := A2 (ix4 b j h t)

/-- An element of the context of head `h`: row `i` of batch `b`, column `d` of the head's 64. -/
def ctxE (A0 : FVec Ideal S2x256x512 .f32) (A1 : FVec Ideal S512x1024 .f32) (A2 A3 : FVec Ideal S2x256x16x64 .f32)
    (b : Fin 2) (i : Fin 256) (h : Fin 16) (d : Fin 64) : EReal :=
  ∑ j, A3 (ix4 b j h d) * Ideal.div
    (Ideal.exp (scoreR (seen i j) (xRow A0 b i) (wCols A1 h) (kRow A2 b h j)
      - Finset.fold max (Ideal.ofBits .f32 0xFF800000#32)
          (fun l => scoreR (seen i l) (xRow A0 b i) (wCols A1 h) (kRow A2 b h l)) Finset.univ))
    (∑ l, Ideal.exp (scoreR (seen i l) (xRow A0 b i) (wCols A1 h) (kRow A2 b h l)
      - Finset.fold max (Ideal.ofBits .f32 0xFF800000#32)
          (fun l => scoreR (seen i l) (xRow A0 b i) (wCols A1 h) (kRow A2 b h l)) Finset.univ))

/-- A term of an entry of the result: the contribution of column `col` of the contexts. -/
def term (A0 : FVec Ideal S2x256x512 .f32) (A1 : FVec Ideal S512x1024 .f32) (A2 A3 : FVec Ideal S2x256x16x64 .f32)
    (A4 : FVec Ideal S1024x512 .f32) (b : Fin 2) (i : Fin 256) (n : Fin 512) (col : Fin 1024) : EReal :=
  ctxE A0 A1 A2 A3 b i ⟨col.val / 64, by omega⟩ ⟨col.val % 64, Nat.mod_lt _ (by decide)⟩ * A4 (ix2 col n)

theorem select_one (a b : EReal) : Scalar.select 1#1 a b = a := rfl

/-- The reference's result at an index. -/
theorem reference_apply (m : (ℓ : Loc nD τ sig) → Buf (Elt Ideal) ℓ) (c : Dev nD) (b : Fin 2) (i : Fin 256) (n : Fin 512) :
    (Cert.ReferenceIdeal.Value.res_main_v42 m c : FVec Ideal S2x256x512 .f32) (ix3 b i n)
      = ∑ col, term (m (c.tc.loc main_arg0)) (m (c.tc.loc main_arg1)) (m (c.tc.loc main_arg2)) (m (c.tc.loc main_arg3))
          (m (c.tc.loc main_arg4)) b i n col := by
  have hk := kept i
  unfold seen at hk
  pointwise [Cert.ReferenceIdeal.Value.res_main_v42]
  simp only [hk, select_one]
  rfl

end Cert.Value

end
-- ==== Proof.Value.Heads.lean ====
/-
  The kernel's contexts, element by element: each of a device's eight heads (two batches of four) is the same function of
  the device's activations, its columns of the query weights, and the head's keys and values.
-/
module

public import proofs.«01_k».proof.Proof.KernelIdeal.Protocol
public import proofs.«01_k».proof.Proof.Value.Reference
public import Idealize.ShloMosaic.Lib.Pointwise.IndexBridge

@[expose] public section

set_option maxRecDepth 16384

noncomputable section

namespace Cert.Value

open Cert.KernelIdeal Cert.KernelIdeal.Gen Cert.KernelIdeal.Talk Idealize.ShloMosaic Idealize.ShloMosaic.TcCoe

variable (m : (ℓ : Loc nD τ sig) → Buf (Elt Ideal) ℓ) (c : Dev nD)

/-- One element of a head's context, from the batch's queries: the head's queries are the 64 columns from `off` on. -/
def headP (q : FVec Ideal S256x256 .bf16) (off : Nat) (hoff : off + 64 ≤ 256) (K W : Vec Ideal S1x1x64x256 .f32)
    (i : Fin 256) (d : Fin 64) : EReal :=
  (∑ k : Fin 256, Ideal.exp (Scalar.select (seen i k)
      (∑ t : Fin 64, q (ix2 i ⟨off + t.val, by omega⟩) * K (ix4 0 0 t k)) low) * W (ix4 0 0 d k))
    * Ideal.div 1 (∑ k : Fin 256, Ideal.exp (Scalar.select (seen i k)
      (∑ t : Fin 64, q (ix2 i ⟨off + t.val, by omega⟩) * K (ix4 0 0 t k)) low))

/-- The kernel's mask. -/
theorem mask_apply (i k : Fin 256) : k0_pay1 (ix2 i k) = seen i k := by
  pointwise [k0_pay1]
  exact ori_assoc _ _ _

/-- The queries of a batch. -/
def qB (b : Fin 2) : FVec Ideal S256x256 .bf16 := k0_pay3 (wqS m c) (xV m c b)

theorem q1_eq : q1 m c = qB m c 1 := rfl

/-- Every head is the same function of its operands. -/
theorem hd_eq (b : Fin 2) (j : Fin 4) (i : Fin 256) (d : Fin 64) :
    hd m c b j (ix2 i d) = headP (qB m c b) (64 * j.val) (by omega) (kV m c b j) (vV m c b j) i d := by
  unfold headP
  simp only [← mask_apply]
  fin_cases b <;> fin_cases j <;>
    pointwise [hd, q0, q1_eq, qB, k0_pay4, k0_pay5, k0_pay6, k0_pay7, k0_pay8, k0_pay9, k0_pay10, k0_pay12, k0_pay13, k0_pay14,
      k0_pay15, k0_pay16, k0_pay17]
  rfl

/-! ## The device's operands, in the whole arrays -/

theorem head_lt (c : Dev nD) (j : Fin 4) : 4 * c.val + j.val < 16 := by
  have h : c.val < 4 := c.isLt
  omega

/-- The devices' arrays are their parts of whole arrays `A0` … `A4`, and the activations, the query weights and the keys are
    real. -/
structure Shared (A0 : FVec Ideal Cert.ReferenceIdeal.S2x256x512 .f32) (A1 : FVec Ideal Cert.ReferenceIdeal.S512x1024 .f32)
    (A2 A3 : FVec Ideal Cert.ReferenceIdeal.S2x256x16x64 .f32) (A4 : FVec Ideal Cert.ReferenceIdeal.S1024x512 .f32) : Prop where
  arg0 : ∀ c : Dev nD, m (c.tc.loc main_arg0) = A0
  arg1 : ∀ c : Dev nD, m (c.tc.loc main_arg1) = A1
  arg2 : ∀ (c : Dev nD) (b : Fin 2) (k : Fin 256) (j : Fin 4) (d : Fin 64),
    (m (c.tc.loc main_arg2) : FVec Ideal S2x256x4x64 .f32) (ix4 b k j d) = A2 (ix4 b k ⟨4 * c.val + j.val, head_lt c j⟩ d)
  arg3 : ∀ (c : Dev nD) (b : Fin 2) (k : Fin 256) (j : Fin 4) (d : Fin 64),
    (m (c.tc.loc main_arg3) : FVec Ideal S2x256x4x64 .f32) (ix4 b k j d) = A3 (ix4 b k ⟨4 * c.val + j.val, head_lt c j⟩ d)
  arg4 : ∀ c : Dev nD, m (c.tc.loc main_arg4) = A4
  real0 : ∀ i, IsReal (A0 i)
  real1 : ∀ i, IsReal (A1 i)
  real2 : ∀ (c : Dev nD) (i), IsReal ((m (c.tc.loc main_arg2) : FVec Ideal S2x256x4x64 .f32) i)

theorem V_main_v1 : (V m c main_v1 : FVec Ideal S2x4x64x256 .f32)
    = transpose S2x4x64x256 [0, 2, 3, 1] (m (c.tc.loc main_arg2)) transposes_S2x256x4x64_S2x4x64x256_0_2_3_1 := by
  show StableHlo.after hostOps0 _ (Proc.devRef .tc main_v1) = _
  after_results

theorem V_main_v2 : (V m c main_v2 : FVec Ideal S2x4x64x256 .f32)
    = transpose S2x4x64x256 [0, 2, 3, 1] (m (c.tc.loc main_arg3)) transposes_S2x256x4x64_S2x4x64x256_0_2_3_1 := by
  show StableHlo.after hostOps0 _ (Proc.devRef .tc main_v2) = _
  after_results

theorem kV_apply (b : Fin 2) (j : Fin 4) (t : Fin 64) (k : Fin 256) :
    kV m c b j (ix4 0 0 t k) = (m (c.tc.loc main_arg2) : FVec Ideal S2x256x4x64 .f32) (ix4 b k j t) := by
  refine (congrFun (V_main_v1 m c) (ix4 b j t k)).trans ?_
  pointwise

theorem vV_apply (b : Fin 2) (j : Fin 4) (t : Fin 64) (k : Fin 256) :
    vV m c b j (ix4 0 0 t k) = (m (c.tc.loc main_arg3) : FVec Ideal S2x256x4x64 .f32) (ix4 b k j t) := by
  refine (congrFun (V_main_v2 m c) (ix4 b j t k)).trans ?_
  pointwise

theorem qB_apply (X : FVec Ideal S2x256x512 .f32) (W : FVec Ideal S512x1024 .f32) (hX : m (c.tc.loc main_arg0) = X)
    (hW : m (c.tc.loc main_arg1) = W) (b : Fin 2) (i n : Fin 256) :
    qB m c b (ix2 i n)
      = ∑ e : Fin 512, X (ix3 b i e) * (W (ix2 e ⟨256 * c.val + n.val, col_lt c n⟩) * eighth) := by
  have h0 : ∀ e, xV m c b (ix3 0 i e) = X (ix3 b i e) := fun e => congrFun ((V_main_arg0 m c).trans hX) _
  have h1 : ∀ e, wqV m c (ix2 e n) = W (ix2 e ⟨256 * c.val + n.val, col_lt c n⟩) := fun e =>
    congrFun ((V_main_arg1 m c).trans hW) _
  pointwise [qB, k0_pay3, wqS, k0_pay2]
  simp only [h0, h1]

variable {m}
variable {A0 : FVec Ideal Cert.ReferenceIdeal.S2x256x512 .f32} {A1 : FVec Ideal Cert.ReferenceIdeal.S512x1024 .f32}
  {A2 A3 : FVec Ideal Cert.ReferenceIdeal.S2x256x16x64 .f32} {A4 : FVec Ideal Cert.ReferenceIdeal.S1024x512 .f32}

/-- Local head `j` of device `c` is head `4 c + j`. -/
theorem hd_apply (H : Shared m A0 A1 A2 A3 A4) (b : Fin 2) (j : Fin 4) (i : Fin 256) (d : Fin 64) (h : Fin 16)
    (hh : h.val = 4 * c.val + j.val) : hd m c b j (ix2 i d) = ctxE A0 A1 A2 A3 b i h d := by
  obtain rfl : h = ⟨4 * c.val + j.val, head_lt c j⟩ := Fin.ext hh
  have hq : ∀ t : Fin 64, qB m c b (ix2 i ⟨64 * j.val + t.val, by omega⟩)
      = ∑ e, xRow A0 b i e * (wCols A1 ⟨4 * c.val + j.val, head_lt c j⟩ t e * eighth) := fun t => by
    refine (qB_apply m c A0 A1 (H.arg0 c) (H.arg1 c) b i _).trans ?_
    refine Finset.sum_congr rfl fun e _ => ?_
    unfold wCols
    exact congrArg (fun n => A0 (ix3 b i e) * (A1 (ix2 e n) * eighth))
      (Fin.ext (by show 256 * c.val + (64 * j.val + t.val) = (4 * c.val + j.val) * 64 + t.val; omega))
  rw [hd_eq]
  unfold headP
  simp only [hq, kV_apply, vV_apply, H.arg2, H.arg3]
  exact attend (seen i) (xRow A0 b i) (wCols A1 _) (kRow A2 b _) _ (fun e => H.real0 _) (fun t e => H.real1 _)
    fun k t => (show IsReal (A2 (ix4 b k ⟨4 * c.val + j.val, head_lt c j⟩ t)) from (H.arg2 c b k j t) ▸ H.real2 c _)

end Cert.Value

end
-- ==== Proof.Value.Result.lean ====
/-
  The kernel's result, element by element, and that it is the reference's on every device.

  Each device adds to its own contexts' product with its rows of the output weights the products of the contexts that arrived,
  in an order that depends on the device. Over the extended reals addition is commutative and associative, so every device ends
  with the sum over all four devices, both halves and the 128 columns of a block: the reference's sum over 1024 columns.
-/
module

public import proofs.«01_k».proof.Proof.Value.Heads

@[expose] public section

set_option maxRecDepth 16384

noncomputable section

namespace Cert.Value

open Cert.KernelIdeal Cert.KernelIdeal.Gen Cert.KernelIdeal.Talk Idealize.ShloMosaic Idealize.ShloMosaic.TcCoe

variable (m : (ℓ : Loc nD τ sig) → Buf (Elt Ideal) ℓ) (c : Dev nD)

/-- The product of device `d`'s context block with its rows of the output weights, as device `c` forms it. -/
def prodV (b : Fin 2) (i : Fin 256) (n : Fin 512) (d : Dev nD) (h : Fin 2) : EReal :=
  ∑ r : Fin 128, ctxV m d b h (ix2 i r) * wb m c d h (ix2 r n)

/-- A sum over the device's own blocks, then over those that arrived from the left, the right and the opposite device. -/
def gathered (c : Dev nD) (P : Dev nD → Fin 2 → EReal) : EReal :=
  P c 0 + P c 1 + (P (origin 0 c) 0 + P (origin 1 c) 0 + P (origin 2 c) 0) + (P (origin 0 c) 1 + P (origin 1 c) 1 + P (origin 2 c) 1)

theorem cmV_apply (k : Fin 3) (b h : Fin 2) (i : Fin 256) (r : Fin 128) :
    cmV m c k b h (ix5 0 0 0 i r) = ctxV m (origin k c) b h (ix2 i r) := rfl

theorem acc02_apply (i : Fin 256) (n : Fin 512) : acc02 m c (ix3 0 i n) = gathered c (prodV m c 0 i n) := by
  pointwise [acc02, acc01, acc00, k0_pay19, k0_pay21, k0_pay22, k0_pay23, k0_pay24, k0_pay25, k0_pay26]
  simp only [cmV_apply]
  rfl

theorem acc12_apply (i : Fin 256) (n : Fin 512) : acc12 m c (ix3 0 i n) = gathered c (prodV m c 1 i n) := by
  pointwise [acc12, acc11, acc10, k0_pay20, k0_pay27, k0_pay28, k0_pay29, k0_pay30, k0_pay31, k0_pay32]
  simp only [cmV_apply]
  rfl

/-- A device and the origins of the three directions are all four devices. -/
theorem all_devices (Q : Dev nD → EReal) :
    Q c + Q (origin 0 c) + Q (origin 1 c) + Q (origin 2 c) = ∑ d : Fin 4, Q d := by
  rw [Fin.sum_univ_four]
  fin_cases c
  · show Q 0 + Q 3 + Q 1 + Q 2 = Q 0 + Q 1 + Q 2 + Q 3
    ac_rfl
  · show Q 1 + Q 0 + Q 2 + Q 3 = Q 0 + Q 1 + Q 2 + Q 3
    ac_rfl
  · show Q 2 + Q 1 + Q 3 + Q 0 = Q 0 + Q 1 + Q 2 + Q 3
    ac_rfl
  · show Q 3 + Q 2 + Q 0 + Q 1 = Q 0 + Q 1 + Q 2 + Q 3
    ac_rfl

/-- Whatever the order, the sum is over all devices and halves. -/
theorem gathered_eq (P : Dev nD → Fin 2 → EReal) : gathered c P = ∑ d : Fin 4, ∑ h : Fin 2, P d h := by
  rw [← all_devices c fun d => ∑ h : Fin 2, P d h]
  simp only [Fin.sum_univ_two]
  unfold gathered
  ac_rfl

/-- A sum over 1024 columns, by device, half and column of a block. -/
theorem sum_cols (f : Fin 1024 → EReal) :
    ∑ col, f col = ∑ d : Fin 4, ∑ h : Fin 2, ∑ r : Fin 128, f ⟨256 * d.val + 128 * h.val + r.val, by omega⟩ := by
  rw [← Equiv.sum_comp (finProdFinEquiv (m := 8) (n := 128)) f, Fintype.sum_prod_type,
    ← Equiv.sum_comp (finProdFinEquiv (m := 4) (n := 2)), Fintype.sum_prod_type]
  refine Finset.sum_congr rfl fun d _ => Finset.sum_congr rfl fun h _ => Finset.sum_congr rfl fun r _ => congrArg f (Fin.ext ?_)
  show r.val + 128 * (h.val + 2 * d.val) = 256 * d.val + 128 * h.val + r.val
  omega

variable {m}
variable {A0 : FVec Ideal Cert.ReferenceIdeal.S2x256x512 .f32} {A1 : FVec Ideal Cert.ReferenceIdeal.S512x1024 .f32}
  {A2 A3 : FVec Ideal Cert.ReferenceIdeal.S2x256x16x64 .f32} {A4 : FVec Ideal Cert.ReferenceIdeal.S1024x512 .f32}

/-- Column `r` of a context block is column `256 d + 128 h + r` of the contexts. -/
theorem ctxV_apply (H : Shared m A0 A1 A2 A3 A4) (d : Dev nD) (b h : Fin 2) (i : Fin 256) (r : Fin 128) :
    ctxV m d b h (ix2 i r)
      = ctxE A0 A1 A2 A3 b i ⟨(256 * d.val + 128 * h.val + r.val) / 64, by have := row_lt d h r; omega⟩
          ⟨(256 * d.val + 128 * h.val + r.val) % 64, Nat.mod_lt _ (by decide)⟩ := by
  have hd4 : d.val < 4 := d.isLt
  show (if h' : r.val < 64 then _ else _) = _
  split
  · refine (hd_apply d H b _ i ⟨r.val, ‹_›⟩ ⟨(256 * d.val + 128 * h.val + r.val) / 64, by omega⟩ ?_).trans ?_
    · show (256 * d.val + 128 * h.val + r.val) / 64 = 4 * d.val + 2 * h.val
      omega
    · exact congrArg (ctxE A0 A1 A2 A3 b i _) (Fin.ext (by show r.val = (256 * d.val + 128 * h.val + r.val) % 64; omega))
  · refine (hd_apply d H b _ i ⟨r.val - 64, by omega⟩ ⟨(256 * d.val + 128 * h.val + r.val) / 64, by omega⟩ ?_).trans ?_
    · show (256 * d.val + 128 * h.val + r.val) / 64 = 4 * d.val + (2 * h.val + 1)
      omega
    · exact congrArg (ctxE A0 A1 A2 A3 b i _) (Fin.ext (by show r.val - 64 = (256 * d.val + 128 * h.val + r.val) % 64; omega))

theorem wb_apply (H : Shared m A0 A1 A2 A3 A4) (d : Dev nD) (h : Fin 2) (r : Fin 128) (n : Fin 512) :
    wb m c d h (ix2 r n) = A4 (ix2 ⟨256 * d.val + 128 * h.val + r.val, row_lt d h r⟩ n) := by
  show k0_pay18 (V m c main_arg4) (ix2 ⟨256 * d.val + 128 * h.val + r.val, row_lt d h r⟩ n) = _
  have h4 : ∀ j, V m c main_arg4 j = A4 j := fun j => congrFun ((V_main_arg4 m c).trans (H.arg4 c)) j
  pointwise [k0_pay18]
  exact h4 _

/-- The kernel's result on any device, at an index: the reference's sum. -/
theorem kernel_apply (H : Shared m A0 A1 A2 A3 A4) (b : Fin 2) (i : Fin 256) (n : Fin 512) :
    @Eq EReal (outV m c (ix3 b i n)) (∑ col, term A0 A1 A2 A3 A4 b i n col) := by
  have out : @Eq EReal (outV m c (ix3 b i n)) (gathered c (prodV m c b i n)) := by
    fin_cases b
    · exact acc02_apply m c i n
    · exact acc12_apply m c i n
  rw [out, gathered_eq, sum_cols]
  refine Finset.sum_congr rfl fun d _ => Finset.sum_congr rfl fun h _ => Finset.sum_congr rfl fun r _ => ?_
  rw [ctxV_apply H, wb_apply c H]
  rfl

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Result
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m g _ =>
  (θ_run _ _ _).mono (fun _ h => ⟨fun c => (h.1 c).2, h.2⟩) (Cert.Kernel.Talk.run_main (F := Bits) m g)

theorem frame_kernelIdeal : Cert.quiescent_KernelIdeal := fun m g _ =>
  (θ_run _ _ _).mono (fun _ h => ⟨fun c => (h.1 c).2, h.2⟩) (Cert.KernelIdeal.Talk.run_main (F := Ideal) m g)

/-- The reference has no semaphore. -/
theorem no_sems {α : Type} (s t : GSem Cert.ReferenceIdeal.nD Cert.ReferenceIdeal.τ Cert.ReferenceIdeal.sig → α) : s = t :=
  funext fun g => by
    obtain ⟨c, sm⟩ := g
    cases sm with
    | reg i => exact Fin.elim0 i
    | dma i => exact Fin.elim0 i

theorem frame_reference : Cert.quiescent_ReferenceIdeal := fun m g _ =>
  (θ_run _ _ _).mono (fun _ h => ⟨fun c => (h c).2, no_sems _ _⟩) (Cert.ReferenceIdeal.Value.run (F := Ideal) m g)

/-! ## The values -/

instance preKernelFacts : Cert.Pre_finite_KernelIdeal.Facts := ⟨by decide, by decide, by decide⟩

instance preReferenceFacts : Cert.Pre_finite_ReferenceIdeal.Facts := ⟨by decide, by decide, by decide⟩

/-- A comparison `|x| < ∞` that came out true: `x` is real. -/
theorem isReal_of_olt {x : EReal}
    (h : FloatOps.cmpf (F := Ideal) (φ := .f32) .olt (FloatOps.hostAbsf (F := Ideal) (φ := .f32) x) (FloatOps.ofBits (F := Ideal) .f32 0x7F800000#32) = 1#1) :
    Value.IsReal x := by
  have h' : Ideal.cmp .olt (max x (-x)) (Ideal.ofBits .f32 0x7F800000#32) = 1#1 := h
  rw [Value.inf_eq] at h'
  unfold Ideal.cmp at h'
  by_cases hlt : max x (-x) < ⊤
  · exact Value.isReal_of_abs_lt hlt
  · simp [hlt] at h'

/-- Index `(b, k, j, d)` of device `c`'s block of the keys or the values is index `(b, k, 4 c + j, d)` of the whole array. -/
theorem block_at (v : FVec Ideal Cert.ReferenceIdeal.S2x256x16x64 .f32) (c : Fin 4) (b : Fin 2) (k : Fin 256) (j : Fin 4) (d : Fin 64)
    (hj : 4 * c.val + j.val < 16) :
    Layout.block ⟨4, ![2, 256, 4, 64]⟩ ⟨4, ![2, 256, 16, 64]⟩ 2 4 c v (by decide) (ix4 b k j d) = v (ix4 b k ⟨4 * c.val + j.val, hj⟩ d) := by
  rw [Layout.block_apply]
  refine congrArg v (funext fun a => Fin.ext ?_)
  rw [Layout.Tiles.idx_val]
  match a with
  | ⟨0, _⟩ => rfl
  | ⟨1, _⟩ => rfl
  | ⟨2, _⟩ => show c.val * 4 + j.val = 4 * c.val + j.val; omega
  | ⟨3, _⟩ => rfl

/-- Under the precondition every device's result is the reference's. -/
theorem algebraic : Cert.algebraic_KernelIdeal_ReferenceIdeal_pre_finite_KernelIdeal := by
  intro m g m' g' hpre hargs
  have H : Value.Shared m (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2))
      (m' ((0 : Dev Cert.ReferenceIdeal.nD).tc.loc Cert.ReferenceIdeal.main_arg3))
      (m' ((0 : Dev Cert.ReferenceIdeal.nD).tc.loc Cert.ReferenceIdeal.main_arg4)) :=
    { arg0 := fun c => (hargs c).1
      arg1 := fun c => (hargs c).2.1
      arg2 := fun c b k j d => (congrFun (hargs c).2.2.1 _).trans (block_at _ c b k j d _)
      arg3 := fun c b k j d => (congrFun (hargs c).2.2.2.1 _).trans (block_at _ c b k j d _)
      arg4 := fun c => (hargs c).2.2.2.2
      real0 := fun i => (hargs 0).1 ▸ isReal_of_olt (congrFun (hpre 0).1 i)
      real1 := fun i => (hargs 0).2.1 ▸ isReal_of_olt (congrFun (hpre 0).2.1 i)
      real2 := fun c i => isReal_of_olt (congrFun (hpre c).2.2 i) }
  have eq : ∀ c, Cert.KernelIdeal.Talk.outV m c = Cert.ReferenceIdeal.Value.res_main_v42 m' 0 := fun c => by
    funext (i : Cert.KernelIdeal.S2x256x512.Idx)
    rw [eq_ix3 i]
    exact (Value.kernel_apply c H _ _ _).trans (Value.reference_apply m' 0 _ _ _).symm
  refine ⟨Cert.ReferenceIdeal.Value.res_main_v42 m' 0, ?_, ?_⟩
  · exact (θ_run _ _ _).mono (fun _ h c => ⟨(h.1 c).1.trans (eq c), (h.1 c).2⟩) (Cert.KernelIdeal.Talk.run_main (F := Ideal) m g)
  · exact (θ_run _ _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, preKernelFacts, preReferenceFacts,
    frame_kernel, frame_kernelIdeal, fun m g _ => frame_kernelIdeal m g trivial, frame_reference,
    fun m g _ => frame_reference m g trivial, trivial, algebraic⟩

end Cert.Proof

end
